-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "levels_per_unit_wide" .f32 0x45044AAB#32 ((6350 / 3 : ℝ) : EReal)
  ∧ IdealRules.named_const.Statement Cert.KernelIdeal.κ "unit_per_level_wide" .f32 0x334AE96E#32 ((3 / 63500000 : ℝ) : EReal)
  ∧ IdealRules.named_const.Statement Cert.KernelIdeal.κ "unit_per_level_narrow" .f32 0x31587076#32 ((1 / 317500000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S192x256 : Shape := ⟨2, ![192, 256]⟩
abbrev S256 : Shape := ⟨1, ![256]⟩
abbrev S256x64 : Shape := ⟨2, ![256, 64]⟩
abbrev S64x13 : Shape := ⟨2, ![64, 13]⟩
abbrev S13 : Shape := ⟨1, ![13]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  main_v53

def fn_part2 {F : FTy → Type} [FloatOps F] (main_arg7 : FVec F S64 .f32) (main_arg8 : FVec F S64x64 .f32) (main_arg9 : FVec F S64 .f32) (main_arg10 : FVec F S64x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S192x256 .f32) (main_arg13 : FVec F S256 .f32) (main_arg14 : FVec F S256x64 .f32) (main_arg15 : FVec F S64 .f32) (main_arg16 : FVec F S64x13 .f32) (main_arg17 : FVec F S13 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S192x256 : Shape := ⟨2, ![192, 256]⟩
abbrev S256 : Shape := ⟨1, ![256]⟩
abbrev S256x64 : Shape := ⟨2, ![256, 64]⟩
abbrev S64x13 : Shape := ⟨2, ![64, 13]⟩
abbrev S13 : Shape := ⟨1, ![13]⟩
abbrev S10000x64 : Shape := ⟨2, ![10000, 64]⟩
abbrev S1x64 : Shape := ⟨2, ![1, 64]⟩
abbrev S10000x1 : Shape := ⟨2, ![10000, 1]⟩
abbrev S400x10000 : Shape := ⟨2, ![400, 10000]⟩
abbrev S400x64 : Shape := ⟨2, ![400, 64]⟩
abbrev S400x1 : Shape := ⟨2, ![400, 1]⟩
abbrev S400 : Shape := ⟨1, ![400]⟩
abbrev S1x256 : Shape := ⟨2, ![1, 256]⟩
abbrev S1x13 : Shape := ⟨2, ![1, 13]⟩
abbrev S10000x13 : Shape := ⟨2, ![10000, 13]⟩
abbrev S10000x256 : Shape := ⟨2, ![10000, 256]⟩
abbrev S1000x10000 : Shape := ⟨2, ![1000, 10000]⟩
abbrev S1000x1 : Shape := ⟨2, ![1000, 1]⟩
abbrev S1000x64 : Shape := ⟨2, ![1000, 64]⟩
abbrev S1000x13 : Shape := ⟨2, ![1000, 13]⟩
abbrev S1000x256 : Shape := ⟨2, ![1000, 256]⟩
abbrev S1000x192 : Shape := ⟨2, ![1000, 192]⟩

abbrev nBuf : Space → Nat
  | .hbm => 33
  | .vmem => 47
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S192x256, .f32⟩
  | .hbm, ⟨13, _⟩ => ⟨S256, .f32⟩
  | .hbm, ⟨14, _⟩ => ⟨S256x64, .f32⟩
  | .hbm, ⟨15, _⟩ => ⟨S64, .f32⟩
  | .hbm, ⟨16, _⟩ => ⟨S64x13, .f32⟩
  | .hbm, ⟨17, _⟩ => ⟨S13, .f32⟩
  | .hbm, ⟨18, _⟩ => ⟨S10000x64, .f32⟩
  | .hbm, ⟨19, _⟩ => ⟨S1x64, .f32⟩
  | .hbm, ⟨20, _⟩ => ⟨S10000x10000, .fp8e4m3⟩
  | .hbm, ⟨21, _⟩ => ⟨S10000x64, .f32⟩
  | .hbm, ⟨22, _⟩ => ⟨S10000x64, .f32⟩
  | .hbm, ⟨23, _⟩ => ⟨S10000x1, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x256, .f32⟩
  | .hbm, ⟨29, _⟩ => ⟨S1x64, .f32⟩
  | .hbm, ⟨30, _⟩ => ⟨S1x13, .f32⟩
  | .hbm, ⟨31, _⟩ => ⟨S10000x13, .f32⟩
  | .hbm, ⟨32, _⟩ => ⟨S10000x256, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S400x10000, .f32⟩
  | .local _ .vmem, ⟨4, _⟩ => ⟨S400x10000, .f32⟩
  | .local _ .vmem, ⟨5, _⟩ => ⟨S10000x64, .f32⟩
  | .local _ .vmem, ⟨6, _⟩ => ⟨S1x64, .f32⟩
  | .local _ .vmem, ⟨7, _⟩ => ⟨S64x64, .f32⟩
  | .local _ .vmem, ⟨8, _⟩ => ⟨S400x10000, .fp8e4m3⟩
  | .local _ .vmem, ⟨9, _⟩ => ⟨S400x10000, .fp8e4m3⟩
  | .local _ .vmem, ⟨10, _⟩ => ⟨S400x64, .f32⟩
  | .local _ .vmem, ⟨11, _⟩ => ⟨S400x64, .f32⟩
  | .local _ .vmem, ⟨12, _⟩ => ⟨S400x64, .f32⟩
  | .local _ .vmem, ⟨13, _⟩ => ⟨S400x64, .f32⟩
  | .local _ .vmem, ⟨14, _⟩ => ⟨S400x1, .f32⟩
  | .local _ .vmem, ⟨15, _⟩ => ⟨S400x1, .f32⟩
  | .local _ .vmem, ⟨16, _⟩ => ⟨S1000x10000, .fp8e4m3⟩
  | .local _ .vmem, ⟨17, _⟩ => ⟨S1000x10000, .fp8e4m3⟩
  | .local _ .vmem, ⟨18, _⟩ => ⟨S1000x1, .f32⟩
  | .local _ .vmem, ⟨19, _⟩ => ⟨S1000x1, .f32⟩
  | .local _ .vmem, ⟨20, _⟩ => ⟨S10000x64, .f32⟩
  | .local _ .vmem, ⟨21, _⟩ => ⟨S1000x64, .f32⟩
  | .local _ .vmem, ⟨22, _⟩ => ⟨S1000x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S192x256, .f32⟩
  | .local _ .vmem, ⟨31, _⟩ => ⟨S1x256, .f32⟩
  | .local _ .vmem, ⟨32, _⟩ => ⟨S256x64, .f32⟩
  | .local _ .vmem, ⟨33, _⟩ => ⟨S1x64, .f32⟩
  | .local _ .vmem, ⟨34, _⟩ => ⟨S64x13, .f32⟩
  | .local _ .vmem, ⟨35, _⟩ => ⟨S1x13, .f32⟩
  | .local _ .vmem, ⟨36, _⟩ => ⟨S1000x13, .f32⟩
  | .local _ .vmem, ⟨37, _⟩ => ⟨S1000x13, .f32⟩
  | .local _ .vmem, ⟨38, _⟩ => ⟨S1000x256, .f32⟩
  | .local _ .vmem, ⟨39, _⟩ => ⟨S1000x256, .f32⟩
  | .local _ .vmem, ⟨40, _⟩ => ⟨S10000x64, .f32⟩
  | .local _ .vmem, ⟨41, _⟩ => ⟨S10000x64, .f32⟩
  | .local _ .vmem, ⟨42, _⟩ => ⟨S10000x64, .fp8e4m3⟩
  | .local _ .vmem, ⟨43, _⟩ => ⟨S1x64, .f32⟩
  | .local _ .vmem, ⟨44, _⟩ => ⟨S10000x64, .f32⟩
  | .local _ .vmem, ⟨45, _⟩ => ⟨S1000x10000, .fp8e4m3⟩
  | .local _ .vmem, ⟨46, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v2_3 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10_0 : Ref sig .tc := ⟨.hbm, 31, rfl⟩
abbrev main_v10_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg14_0 : Ref sig .tc := ⟨.vmem, 33, rfl⟩
abbrev cc2_stg15_0 : Ref sig .tc := ⟨.vmem, 34, rfl⟩
abbrev cc2_stg16_0 : Ref sig .tc := ⟨.vmem, 35, rfl⟩
abbrev cc2_stg17_0 : Ref sig .tc := ⟨.vmem, 36, rfl⟩
abbrev cc2_stg17_1 : Ref sig .tc := ⟨.vmem, 37, rfl⟩
abbrev cc2_stg18_0 : Ref sig .tc := ⟨.vmem, 38, rfl⟩
abbrev cc2_stg18_1 : Ref sig .tc := ⟨.vmem, 39, rfl⟩
abbrev cc2_scratch0 : Ref sig .tc := ⟨.vmem, 40, rfl⟩
abbrev cc2_scratch1 : Ref sig .tc := ⟨.vmem, 41, rfl⟩
abbrev cc2_scratch2 : Ref sig .tc := ⟨.vmem, 42, rfl⟩
abbrev cc2_scratch3 : Ref sig .tc := ⟨.vmem, 43, rfl⟩
abbrev cc2_scratch4 : Ref sig .tc := ⟨.vmem, 44, rfl⟩
abbrev cc2_scratch5 : Ref sig .tc := ⟨.vmem, 45, rfl⟩
abbrev cc2_scratch6 : Ref sig .tc := ⟨.vmem, 46, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem16_0 : DmaSem sig := 35
abbrev cc2_sem17_0 : DmaSem sig := 36
abbrev cc2_sem17_1 : DmaSem sig := 37
abbrev cc2_sem18_0 : DmaSem sig := 38
abbrev cc2_sem18_1 : DmaSem sig := 39

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x10000 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![4, 10], ![false, false]⟩

def k2_cond1 (i : grid2.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c1_i32 : BitVec 32 := 1#32
  let v4 : BitVec 1 := Scalar.cmpi .slt arg1 c1_i32
  let v5 : BitVec 1 := Scalar.andi v3 v4
  let v6 : BitVec 32 := Scalar.extui v5
  let c0_i32_1 : BitVec 32 := 0#32
  let v7 : BitVec 1 := Scalar.cmpi .ne v6 c0_i32_1
  v7

def k2_off1 (i : grid2.Coords) : Fin 2 → Nat :=
  let arg1 : BitVec 32 := BitVec.ofNat 32 (i 1).val
  let c1000_i32_28 : BitVec 32 := 1000#32
  let v52 : BitVec 32 := Scalar.muli arg1 c1000_i32_28
  let v53 : Index := Scalar.indexCast v52
  let c0_29 : Index := 0#32
  ![v53.toNat, 0]
def k2_cond7 (i : grid2.Coords) : BitVec 1 :=
  let arg0 : BitVec 32 := BitVec.ofNat 32 (i 0).val
  let c0_i32_15 : BitVec 32 := 0#32
  let v33 : BitVec 1 := Scalar.cmpi .sgt arg0 c0_i32_15
  let arg1 : BitVec 32 := BitVec.ofNat 32 (i 1).val
  let c1_i32_16 : BitVec 32 := 1#32
  let v34 : BitVec 1 := Scalar.cmpi .slt arg1 c1_i32_16
  let v35 : BitVec 1 := Scalar.andi v33 v34
  let v36 : BitVec 32 := Scalar.extui v35
  let c0_i32_17 : BitVec 32 := 0#32
  let v37 : BitVec 1 := Scalar.cmpi .ne v36 c0_i32_17
  v37

def k2_off2 (i : grid2.Coords) : Fin 2 → Nat :=
  let arg1 : BitVec 32 := BitVec.ofNat 32 (i 1).val
  let c1000_i32_26 : BitVec 32 := 1000#32
  let v50 : BitVec 32 := Scalar.muli arg1 c1000_i32_26
  let v51 : Index := Scalar.indexCast v50
  let c0_27 : Index := 0#32
  ![v51.toNat, 0]
def k2_cond8 (i : grid2.Coords) : BitVec 1 :=
  let arg0 : BitVec 32 := BitVec.ofNat 32 (i 0).val
  let c0_i32_18 : BitVec 32 := 0#32
  let v38 : BitVec 1 := Scalar.cmpi .eq arg0 c0_i32_18
  let v39 : BitVec 32 := Scalar.extui v38
  let c0_i32_19 : BitVec 32 := 0#32
  let v40 : BitVec 1 := Scalar.cmpi .ne v39 c0_i32_19
  v40

def k2_off3 (i : grid2.Coords) : Fin 2 → Nat :=
  let arg1 : BitVec 32 := BitVec.ofNat 32 (i 1).val
  let c1000_i32 : BitVec 32 := 1000#32
  let v0 : BitVec 32 := Scalar.muli arg1 c1000_i32
  let v66 : Index := Scalar.indexCast v0
  let c0_36 : Index := 0#32
  ![v66.toNat, 0]
def k2_cond9 (i : grid2.Coords) : BitVec 1 :=
  let arg0 : BitVec 32 := BitVec.ofNat 32 (i 0).val
  let c1_i32_20 : BitVec 32 := 1#32
  let v41 : BitVec 1 := Scalar.cmpi .eq arg0 c1_i32_20
  let v42 : BitVec 32 := Scalar.extui v41
  let c0_i32_21 : BitVec 32 := 0#32
  let v43 : BitVec 1 := Scalar.cmpi .ne v42 c0_i32_21
  v43

def k2_off4 (i : grid2.Coords) : Fin 2 → Nat :=
  let arg1 : BitVec 32 := BitVec.ofNat 32 (i 1).val
  let c1000_i32 : BitVec 32 := 1000#32
  let v0 : BitVec 32 := Scalar.muli arg1 c1000_i32
  let v67 : Index := Scalar.indexCast v0
  let c0_35 : Index := 0#32
  ![v67.toNat, 0]
def k2_cond10 (i : grid2.Coords) : BitVec 1 :=
  let arg0 : BitVec 32 := BitVec.ofNat 32 (i 0).val
  let c2_i32_22 : BitVec 32 := 2#32
  let v44 : BitVec 1 := Scalar.cmpi .eq arg0 c2_i32_22
  let v45 : BitVec 32 := Scalar.extui v44
  let c0_i32_23 : BitVec 32 := 0#32
  let v46 : BitVec 1 := Scalar.cmpi .ne v45 c0_i32_23
  v46

def k2_off5 (i : grid2.Coords) : Fin 2 → Nat :=
  let arg1 : BitVec 32 := BitVec.ofNat 32 (i 1).val
  let c1000_i32 : BitVec 32 := 1000#32
  let v0 : BitVec 32 := Scalar.muli arg1 c1000_i32
  let v66 : Index := Scalar.indexCast v0
  let c0_36 : Index := 0#32
  ![v66.toNat, 0]
def k2_cond11 (i : grid2.Coords) : BitVec 1 :=
  let arg0 : BitVec 32 := BitVec.ofNat 32 (i 0).val
  let c3_i32_24 : BitVec 32 := 3#32
  let v47 : BitVec 1 := Scalar.cmpi .eq arg0 c3_i32_24
  let v48 : BitVec 32 := Scalar.extui v47
  let c0_i32_25 : BitVec 32 := 0#32
  let v49 : BitVec 1 := Scalar.cmpi .ne v48 c0_i32_25
  v49

def k2_off6 (i : grid2.Coords) : Fin 2 → Nat :=
  let arg1 : BitVec 32 := BitVec.ofNat 32 (i 1).val
  let c1000_i32 : BitVec 32 := 1000#32
  let v0 : BitVec 32 := Scalar.muli arg1 c1000_i32
  let v50 : Index := Scalar.indexCast v0
  let c0_26 : Index := 0#32
  ![v50.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 1 := Scalar.cmpi .slt arg1 c1_i32
  let v2 : BitVec 1 := Scalar.andi v0 v1
  let c1_i32_0 : BitVec 32 := 1#32
  let v3 : BitVec 32 := Scalar.select v2 c1_i32_0 arg1
  let c0_i32_1 : BitVec 32 := 0#32
  let c0_i32_2 : BitVec 32 := 0#32
  ![v3.toNat, c0_i32_1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc2_transform_18 (i : grid2.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage2_0 : Fin 2 → Memref sig .tc .vmem S1000x10000 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S10000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S192x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S256x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S64x13 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 1 → Memref sig .tc .vmem S1x13 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false, false]

abbrev stage2_17 : Fin 2 → Memref sig .tc .vmem S1000x13 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true, true]

abbrev stage2_18 : Fin 2 → Memref sig .tc .vmem S1000x256 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true, true]
-- ==== KernelIdeal.lean ====
variable {F : FTy → Type} [FloatOps F] [Named F]
def κ : String → Option EReal := fun
  | "levels_per_unit_wide" => some ((6350 / 3 : ℝ) : EReal)
  | "unit_per_level_narrow" => some ((1 / 317500000 : ℝ) : EReal)
  | "unit_per_level_wide" => some ((3 / 63500000 : ℝ) : EReal)
  | _ => none
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S192x256 : Shape := ⟨2, ![192, 256]⟩
abbrev S256 : Shape := ⟨1, ![256]⟩
abbrev S256x64 : Shape := ⟨2, ![256, 64]⟩
abbrev S64x13 : Shape := ⟨2, ![64, 13]⟩
abbrev S13 : Shape := ⟨1, ![13]⟩
abbrev S10000x64 : Shape := ⟨2, ![10000, 64]⟩
abbrev S1x64 : Shape := ⟨2, ![1, 64]⟩
abbrev S_ : Shape := ⟨0, ![]⟩
abbrev S10000x192 : Shape := ⟨2, ![10000, 192]⟩
abbrev S10000x256 : Shape := ⟨2, ![10000, 256]⟩
abbrev S1x256 : Shape := ⟨2, ![1, 256]⟩
abbrev S10000x13 : Shape := ⟨2, ![10000, 13]⟩
abbrev S1x13 : Shape := ⟨2, ![1, 13]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S192x256, .f32⟩
  | .hbm, ⟨13, _⟩ => ⟨S256, .f32⟩
  | .hbm, ⟨14, _⟩ => ⟨S256x64, .f32⟩
  | .hbm, ⟨15, _⟩ => ⟨S64, .f32⟩
  | .hbm, ⟨16, _⟩ => ⟨S64x13, .f32⟩
  | .hbm, ⟨17, _⟩ => ⟨S13, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | .hbm, ⟨23, _⟩ => ⟨S_, .f32⟩
  | .hbm, ⟨24, _⟩ => ⟨S10000x64, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x64, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | .hbm, ⟨39, _⟩ => ⟨S10000x64, .f32⟩
  | .hbm, ⟨40, _⟩ => ⟨S_, .f32⟩
  | .hbm, ⟨41, _⟩ => ⟨S10000x64, .f32⟩
  | .hbm, ⟨42, _⟩ => ⟨S10000x64, .f32⟩
  | .hbm, ⟨43, _⟩ => ⟨S10000x64, .f32⟩
  | .hbm, ⟨44, _⟩ => ⟨S10000x64, .f32⟩
  | .hbm, ⟨45, _⟩ => ⟨S1x64, .f32⟩
  | .hbm, ⟨46, _⟩ => ⟨S10000x64, .f32⟩
  | .hbm, ⟨47, _⟩ => ⟨S10000x64, .f32⟩
  | .hbm, ⟨48, _⟩ => ⟨S_, .f32⟩
  | .hbm, ⟨49, _⟩ => ⟨S10000x64, .f32⟩
  | .hbm, ⟨50, _⟩ => ⟨S10000x64, .f32⟩
  | .hbm, ⟨51, _⟩ => ⟨S10000x64, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S10000x64, .f32⟩
  | .hbm, ⟨57, _⟩ => ⟨S_, .f32⟩
  | .hbm, ⟨58, _⟩ => ⟨S10000x64, .f32⟩
  | .hbm, ⟨59, _⟩ => ⟨S10000x64, .f32⟩
  | .hbm, ⟨60, _⟩ => ⟨S10000x192, .f32⟩
  | .hbm, ⟨61, _⟩ => ⟨S10000x256, .f32⟩
  | .hbm, ⟨62, _⟩ => ⟨S1x256, .f32⟩
  | .hbm, ⟨63, _⟩ => ⟨S10000x256, .f32⟩
  | .hbm, ⟨64, _⟩ => ⟨S10000x256, .f32⟩
  | .hbm, ⟨65, _⟩ => ⟨S_, .f32⟩
  | .hbm, ⟨66, _⟩ => ⟨S10000x256, .f32⟩
  | .hbm, ⟨67, _⟩ => ⟨S10000x256, .f32⟩
  | .hbm, ⟨68, _⟩ => ⟨S10000x64, .f32⟩
  | .hbm, ⟨69, _⟩ => ⟨S1x64, .f32⟩
  | .hbm, ⟨70, _⟩ => ⟨S10000x64, .f32⟩
  | .hbm, ⟨71, _⟩ => ⟨S10000x64, .f32⟩
  | .hbm, ⟨72, _⟩ => ⟨S_, .f32⟩
  | .hbm, ⟨73, _⟩ => ⟨S10000x64, .f32⟩
  | .hbm, ⟨74, _⟩ => ⟨S10000x64, .f32⟩
  | .hbm, ⟨75, _⟩ => ⟨S10000x13, .f32⟩
  | .hbm, ⟨76, _⟩ => ⟨S1x13, .f32⟩
  | .hbm, ⟨77, _⟩ => ⟨S10000x13, .f32⟩
  | .hbm, ⟨78, _⟩ => ⟨S10000x13, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call3_cst : Ref sig .tc := ⟨.hbm, 48, rfl⟩
abbrev main_call3_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call4_cst : Ref sig .tc := ⟨.hbm, 57, rfl⟩
abbrev main_call4_v0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call5_cst : Ref sig .tc := ⟨.hbm, 65, rfl⟩
abbrev main_call5_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call6_cst : Ref sig .tc := ⟨.hbm, 72, rfl⟩
abbrev main_call6_v0 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩

abbrev nD : Nat := 1
abbrev τ : Topo := Topo.v7x

variable {F : FTy → Type} [FloatOps F]
-- ==== Proof.Rows.lean ====
module

public import Idealize.ShloMosaic.Lib.VecWindow

/-! An array of 10000 rows as ten blocks of 1000: a block cut out, the ten glued together, and an array that agrees with another up to a row. -/

@[expose] public section

namespace Cert.Rows

open Idealize.ShloMosaic

variable {α : Type} {n : ℕ}

/-- The array's shape, -/
abbrev Long (n : ℕ) : Shape := ⟨2, ![10000, n]⟩
/-- and a block's. -/
abbrev Block (n : ℕ) : Shape := ⟨2, ![1000, n]⟩

theorem inb (i : Fin 10) : ∀ a, (![1000 * i.val, 0] : Fin 2 → ℕ) a + (Block n).size a ≤ (Long n).size a := fun a => by
  have := i.isLt
  match a with
  | 0 => show 1000 * i.val + 1000 ≤ 10000; omega
  | 1 => show 0 + n ≤ n; omega

/-- Block `i`: rows `1000 * i` to `1000 * i + 999`. -/
def rows (x : (Long n).Idx → α) (i : Fin 10) : (Block n).Idx → α :=
  VecWindow.window x ![1000 * i.val, 0] (Block n).size (inb i)

/-- A row and a column of the array, as an index. -/
def at2 (r : ℕ) (hr : r < 10000) (j : Fin n) : (Long n).Idx := fun a =>
  match a with
  | 0 => ⟨r, hr⟩
  | 1 => j

theorem rows_apply (x : (Long n).Idx → α) (i : Fin 10) (y : (Block n).Idx) :
    rows x i y = x (at2 (1000 * i.val + (y 0).val) (by have := i.isLt; have : (y 0).val < 1000 := (y 0).isLt; omega) (y 1)) := by
  show x _ = x _
  congr 1
  funext a
  apply Fin.ext
  match a with
  | 0 => show 1000 * i.val + 1 * (y 0).val = 1000 * i.val + (y 0).val; omega
  | 1 => show 0 + 1 * (y 1).val = (y 1).val; omega

theorem row_lt (y : (Long n).Idx) : (y 0).val < 10000 := (y 0).isLt

/-- The block a row of the array lies in, -/
def blockOf (y : (Long n).Idx) : Fin 10 := ⟨(y 0).val / 1000, by have := row_lt y; omega⟩

/-- and where in it. -/
def within (y : (Long n).Idx) : (Block n).Idx := fun a =>
  match a with
  | 0 => ⟨(y 0).val % 1000, Nat.mod_lt _ (by decide)⟩
  | 1 => y 1

/-- Ten blocks, one under the other. -/
def glue (f : Fin 10 → (Block n).Idx → α) : (Long n).Idx → α := fun y => f (blockOf y) (within y)

theorem glue_eq (f : Fin 10 → (Block n).Idx → α) (i : Fin 10) (z : (Block n).Idx) (y : (Long n).Idx)
    (h0 : (y 0).val = 1000 * i.val + (z 0).val) (h1 : (y 1).val = (z 1).val) : glue f y = f i z := by
  have hz : (z 0).val < 1000 := (z 0).isLt
  have e : blockOf y = i := Fin.ext (by show (y 0).val / 1000 = i.val; omega)
  have e' : within y = z := by
    funext a
    apply Fin.ext
    match a with
    | 0 => show (y 0).val % 1000 = (z 0).val; omega
    | 1 => show (y 1).val = (z 1).val; exact h1
  unfold glue
  rw [e, e']

theorem rows_glue (f : Fin 10 → (Block n).Idx → α) (i : Fin 10) : rows (glue f) i = f i := by
  funext z
  rw [rows_apply]
  exact glue_eq f i z _ rfl rfl

/-- The array agrees with `g` on its rows before `k`. -/
def Upto (k : ℕ) (x g : (Long n).Idx → α) : Prop := ∀ y, (y 0).val < k → x y = g y

theorem Upto.mono {k k' : ℕ} {x g : (Long n).Idx → α} (h : Upto k x g) (hk : k' ≤ k) : Upto k' x g := fun y hy => h y (by omega)

theorem Upto.all {k : ℕ} {x g : (Long n).Idx → α} (h : Upto k x g) (hk : 10000 ≤ k) : x = g := funext fun y => h y (by have := row_lt y; omega)

theorem Upto.none (x g : (Long n).Idx → α) : Upto 0 x g := fun y hy => absurd hy (Nat.not_lt_zero _)

/-- One more block stored. -/
theorem Upto.put {x : (Long n).Idx → α} {f : Fin 10 → (Block n).Idx → α} (i : Fin 10) {j : ℕ} (hj : j = i.val)
    (h : Upto (1000 * i.val) x (glue f)) :
    Upto (1000 * (i.val + 1)) (VecWindow.put x ![1000 * j, 0] (Block n).size (f i)) (glue f) := fun y hy => by
  subst hj
  by_cases hb : (y 0).val < 1000 * i.val
  · refine Eq.trans (dif_neg fun hall => ?_) (h y hb)
    have := (hall 0).1
    have : 1000 * i.val ≤ (y 0).val := this
    omega
  · have hall : ∀ a, (![1000 * i.val, 0] : Fin 2 → ℕ) a ≤ (y a).val ∧ (y a).val < (![1000 * i.val, 0] : Fin 2 → ℕ) a + (Block n).size a := fun a => by
      match a with
      | 0 => show 1000 * i.val ≤ (y 0).val ∧ (y 0).val < 1000 * i.val + 1000; omega
      | 1 => exact ⟨Nat.zero_le _, by show (y 1).val < 0 + n; have : (y 1).val < n := (y 1).isLt; omega⟩
    refine Eq.trans (dif_pos hall) (glue_eq f i _ y ?_ ?_).symm
    · show (y 0).val = 1000 * i.val + ((y 0).val - 1000 * i.val); omega
    · show (y 1).val = (y 1).val - 0; omega

end Cert.Rows

end
-- ==== Proof.Kernel.Frame.lean ====
module

public import proofs.«01_k».proof.Defs
public import proofs.«01_k».proof.Proof.Kernel.Run

/-! The frame: after the run every argument is as it was and every counter is zero. -/

@[expose] public section

set_option maxRecDepth 16384

noncomputable section

namespace Cert.Kernel.Run

open Cert.Kernel Cert.Kernel.Gen
open Idealize.ShloMosaic Idealize.ShloMosaic.TcCoe Idealize.SL.Sem

theorem frame : Cert.quiescent_Kernel := fun m g _ =>
  (θ_run defs _ _).mono (fun r h => ⟨fun c => ⟨(h.1 c _ (mem_uc main_arg0 (by decide))).trans (Gen.V5_main_arg0 m (outs m) c),
    (h.1 c _ (mem_uc main_arg1 (by decide))).trans (Gen.V5_main_arg1 m (outs m) c),
    (h.1 c _ (mem_uc main_arg2 (by decide))).trans (Gen.V5_main_arg2 m (outs m) c),
    (h.1 c _ (mem_uc main_arg3 (by decide))).trans (Gen.V5_main_arg3 m (outs m) c),
    (h.1 c _ (mem_uc main_arg4 (by decide))).trans (Gen.V5_main_arg4 m (outs m) c),
    (h.1 c _ (mem_uc main_arg5 (by decide))).trans (Gen.V5_main_arg5 m (outs m) c),
    (h.1 c _ (mem_uc main_arg6 (by decide))).trans (Gen.V5_main_arg6 m (outs m) c),
    (h.1 c _ (mem_uc main_arg7 (by decide))).trans (Gen.V5_main_arg7 m (outs m) c),
    (h.1 c _ (mem_uc main_arg8 (by decide))).trans (Gen.V5_main_arg8 m (outs m) c),
    (h.1 c _ (mem_uc main_arg9 (by decide))).trans (Gen.V5_main_arg9 m (outs m) c),
    (h.1 c _ (mem_uc main_arg10 (by decide))).trans (Gen.V5_main_arg10 m (outs m) c),
    (h.1 c _ (mem_uc main_arg11 (by decide))).trans (Gen.V5_main_arg11 m (outs m) c),
    (h.1 c _ (mem_uc main_arg12 (by decide))).trans (Gen.V5_main_arg12 m (outs m) c),
    (h.1 c _ (mem_uc main_arg13 (by decide))).trans (Gen.V5_main_arg13 m (outs m) c),
    (h.1 c _ (mem_uc main_arg14 (by decide))).trans (Gen.V5_main_arg14 m (outs m) c),
    (h.1 c _ (mem_uc main_arg15 (by decide))).trans (Gen.V5_main_arg15 m (outs m) c),
    (h.1 c _ (mem_uc main_arg16 (by decide))).trans (Gen.V5_main_arg16 m (outs m) c),
    (h.1 c _ (mem_uc main_arg17 (by decide))).trans (Gen.V5_main_arg17 m (outs m) c)⟩, h.2⟩) (ends (F := Bits) m g)

end Cert.Kernel.Run

end
-- ==== Proof.KernelIdeal.Conds.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow

/-! The last call's branches, decided over its grid: the phase is the first coordinate, and a phase's first point is the one whose second coordinate is 0. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

/-! ## The conditions, over the grid -/

/-- The point is the first of phase `K`, as the program asks it. -/
abbrev first (K : BitVec 32) (i : grid2.Coords) : Prop :=
  Scalar.cmpi .ne (Scalar.extui (Scalar.andi (Scalar.cmpi .eq (BitVec.ofNat 32 (i 0).val) K) (Scalar.cmpi .eq (BitVec.ofNat 32 (i 1).val) 0#32)) : BitVec 32) 0#32 = 1#1

/-- The point multiplies the block it was handed, as the program asks it. -/
abbrev handed (i : grid2.Coords) : Prop :=
  Scalar.cmpi .ne (Scalar.extui (Scalar.ori (Scalar.cmpi .eq (BitVec.ofNat 32 (i 0).val) 0#32) (Scalar.cmpi .sge (BitVec.ofNat 32 (i 1).val) 1#32)) : BitVec 32) 0#32 = 1#1

theorem first0_iff : ∀ i : grid2.Coords, first 0#32 i ↔ (i 0).val = 0 ∧ (i 1).val = 0 := by decide +kernel
theorem first1_iff : ∀ i : grid2.Coords, first 1#32 i ↔ (i 0).val = 1 ∧ (i 1).val = 0 := by decide +kernel
theorem first2_iff : ∀ i : grid2.Coords, first 2#32 i ↔ (i 0).val = 2 ∧ (i 1).val = 0 := by decide +kernel
theorem first3_iff : ∀ i : grid2.Coords, first 3#32 i ↔ (i 0).val = 3 ∧ (i 1).val = 0 := by decide +kernel
theorem handed_iff : ∀ i : grid2.Coords, handed i ↔ (i 0).val = 0 ∨ (i 1).val ≠ 0 := by decide +kernel
theorem cond1_iff : ∀ i : grid2.Coords, k2_cond1 i = 1#1 ↔ (i 0).val = 0 ∧ (i 1).val = 0 := by decide +kernel
theorem cond7_iff : ∀ i : grid2.Coords, k2_cond7 i = 1#1 ↔ (i 0).val ≠ 0 ∧ (i 1).val = 0 := by decide +kernel
theorem cond8_iff : ∀ i : grid2.Coords, k2_cond8 i = 1#1 ↔ (i 0).val = 0 := by decide +kernel
theorem cond9_iff : ∀ i : grid2.Coords, k2_cond9 i = 1#1 ↔ (i 0).val = 1 := by decide +kernel
theorem cond10_iff : ∀ i : grid2.Coords, k2_cond10 i = 1#1 ↔ (i 0).val = 2 := by decide +kernel
theorem cond11_iff : ∀ i : grid2.Coords, k2_cond11 i = 1#1 ↔ (i 0).val = 3 := by decide +kernel

/-- A block of 1000 rows fits in the 10000. -/
theorem rows_inb (i : grid2.Coords) : ∀ a, (![1000 * (i 1).val, 0] : Fin 2 → Nat) a + S1000x64.size a ≤ S10000x64.size a := by
  revert i; decide +kernel

/-- A load of a whole buffer reads what the buffer reads. -/
theorem load_whole {r : ℕ} {sz : Fin r → ℕ} {e : EltTy} (v : View sig .tc .vmem ⟨r, sz⟩ e) (f : v.ty.Contents (Elt F)) {off : Fin r → ℕ}
    (inb : ∀ a, off a + sz a ≤ sz a) : v.readAt (Elt F) (Rect.unit (s := ⟨r, sz⟩) off sz inb).toLoadRect f = v.read (Elt F) f :=
  View.readAt_full v f inb

/-- A load of a block of rows of a long array reads that block. -/
theorem load_rows (v : View sig .tc .vmem S10000x64 .f32) (f : v.ty.Contents (Elt F)) {i : grid2.Coords} {off : Fin 2 → ℕ}
    (inb : ∀ a, off a + S1000x64.size a ≤ S10000x64.size a) (h : off = ![1000 * (i 1).val, 0]) :
    v.readAt (Elt F) (Rect.unit (s := S10000x64) off S1000x64.size inb).toLoadRect f
      = VecWindow.window (v.read (Elt F) f) ![1000 * (i 1).val, 0] S1000x64.size (rows_inb i) :=
  View.readAt_unit v f inb h (rows_inb i)

/-- A load of a whole buffer just stored whole reads the stored value. -/
theorem load_stored {r : ℕ} {sz : Fin r → ℕ} {e : EltTy} (v : View sig .tc .vmem ⟨r, sz⟩ e) {off off' : Fin r → ℕ}
    (inb : ∀ a, off a + sz a ≤ sz a) (inb' : ∀ a, off' a + sz a ≤ sz a)
    (w : (Rect.unit (s := ⟨r, sz⟩) off' sz inb').shape.Idx → Elt F e) (L : List (View.Piece (Elt F) ⟨r, sz⟩ e)) :
    v.readCov (⟨Rect.unit (s := ⟨r, sz⟩) off' sz inb', w⟩ :: L) (Rect.unit (s := ⟨r, sz⟩) off sz inb).toLoadRect = w :=
  View.readCov_full v inb inb' w L

end Cert.KernelIdeal.Main

end
-- ==== Proof.KernelIdeal.Call0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.Conds

/-! The first call: one block, the product of the node features with the head's weights. -/

@[expose] public section

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- What the call carries from point to point: the buffers it does not use, and the generator's register. -/
def rest (c : Dev nD) : sProp 𝕄 :=
  iprop(Pipeline.scopedRest (Ix := Ix) (Name := ℕ) (U := U) (Lvl := Lvl) (Val := Elt F) spec0 c ∗ ∃ r, prngReg c r)

/-- The block of window `w` at point `t`, cut from its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's buffer holds its block at every point, whatever the proof data, if the body leaves the block in place. -/
theorem before0_of {c : Dev nD} (dat : Dat τ (Elt F) Ix ℕ U Lvl cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Window 1's buffer holds its block at every point, whatever the proof data, if the body leaves the block in place. -/
theorem before1_of {c : Dev nD} (dat : Dat τ (Elt F) Ix ℕ U Lvl cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Window 0's staging buffer at point `t`, and that it is a whole buffer. -/
abbrev st0 (t : Fin cfg0.N) : Memref sig .tc .vmem S10000x128 .f32 := win0_0.stage (cfg0.slots t 0)
theorem st0_whole (t : Fin cfg0.N) : (st0 t).IsWhole := hstage0_0 ((cfg0.slots t 0).cast nbuf0_0)
/-- Window 1's staging buffer at point `t`, and that it is a whole buffer. -/
abbrev st1 (t : Fin cfg0.N) : Memref sig .tc .vmem S128x64 .f32 := win0_1.stage (cfg0.slots t 1)
theorem st1_whole (t : Fin cfg0.N) : (st1 t).IsWhole := hstage0_1 ((cfg0.slots t 1).cast nbuf0_1)
/-- Window 2's staging buffer at point `t`, and that it is a whole buffer. -/
abbrev st2 (t : Fin cfg0.N) : Memref sig .tc .vmem S10000x64 .f32 := win0_2.stage (cfg0.slots t 2)
theorem st2_whole (t : Fin cfg0.N) : (st2 t).IsWhole := hstage0_2 ((cfg0.slots t 2).cast nbuf0_2)

set_option maxHeartbeats 2000000 in
/-- The body, run once: the inputs stay, each output holds its value. -/
theorem run (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (x2 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) 𝒱₀ c none) E (cc0__p0_body i arg1 harg1 arg2 harg2 arg3 harg3) K := by
  simp only [cc0__p0_body_eq_skeleton]; unfold cc0__p0_body_skel
  unfold owns
  iintro ⟨⟨%f0, %hf0, H0⟩, ⟨%f1, %hf1, H1⟩, ⟨%f2, %hf2, H2⟩, Hk⟩
  obtain rfl := harg1.eq_unread hf0
  obtain rfl := harg2.eq_unread hf1
  obtain rfl := harg3.eq_unread hf2
  sl_exec
  sl_step
  iapply Hk
  isplitl [H0]
  · iexists _; isplitr
    swap; · iexact H0
    ipureintro
    exact harg1.read_unread _
  isplitl [H1]
  · iexists _; isplitr
    swap; · iexact H1
    ipureintro
    exact harg2.read_unread _
  · iexists _; isplitr
    swap; · iexact H2
    ipureintro
    sl_unfold_run_names
    rw [View.read_writes_full]
    simp only [Main.load_whole, Main.load_stored, harg1.read_unread, harg2.read_unread, harg3.read_unread]

/-- The proof data of the call on core `c`: the arrays as the call finds them; after the body at point `t` each input's buffer at its block and
each output's at its value on those blocks. -/
def dat (c : Dev nD) : Dat τ (Elt F) Ix ℕ U Lvl cfg0 c where
  A w := V c (Pipeline.arrRef spec0 w)
  after w t := match w with
    | ⟨0, _⟩ => blk V c 0 t
    | ⟨1, _⟩ => blk V c 1 t
    | ⟨2, _⟩ => k0_pay1 (blk V c 0 t) (blk V c 1 t)
  Φ _ := rest (F := F) (Ix := Ix) (U := U) (Lvl := Lvl) c
  q _ := fullShare
  owed _ := D c

variable (ι : Ix)

local notation "𝕕" => dat (Ix := Ix) (U := U) (Lvl := Lvl) V D

theorem dat_A (c : Dev nD) (w : Fin cfg0.W) : (𝕕 c).A w = V c (Pipeline.arrRef spec0 w) := by
  dsimp only [dat]

theorem after0 (c : Dev nD) (t : Fin cfg0.N) : (𝕕 c).after 0 t = blk V c 0 t := by dsimp only [dat]
theorem after1 (c : Dev nD) (t : Fin cfg0.N) : (𝕕 c).after 1 t = blk V c 1 t := by dsimp only [dat]
theorem after2 (c : Dev nD) (t : Fin cfg0.N) : (𝕕 c).after 2 t = k0_pay1 (blk V c 0 t) (blk V c 1 t) := by dsimp only [dat]
theorem before0 (c : Dev nD) (t : Fin cfg0.N) (d) : (𝕕 c).before 0 t d = blk V c 0 t :=
  before0_of V (𝕕 c) (dat_A V D c 0) (after0 V D c) t d
theorem before1 (c : Dev nD) (t : Fin cfg0.N) (d) : (𝕕 c).before 1 t d = blk V c 1 t :=
  before1_of V (𝕕 c) (dat_A V D c 1) (after1 V D c) t d

/-- What the body is called with at point `t`, -/
def bodyPre (c : Dev nD) (t : Fin cfg0.N) : sProp 𝕄 :=
  iprop((𝕕 c).Φ t.castSucc ∗ (𝕕 c).owesAt ι t.castSucc
    ∗ (∃ d, owns (c : Thread nD τ) (st0 t) fullShare ((𝕕 c).before 0 t d))
    ∗ (∃ d, owns (c : Thread nD τ) (st1 t) fullShare ((𝕕 c).before 1 t d))
    ∗ (∃ d, owns (c : Thread nD τ) (st2 t) fullShare ((𝕕 c).before 2 t d)))

/-- and what it returns. -/
def bodyPost (c : Dev nD) (t : Fin cfg0.N) : sProp 𝕄 :=
  iprop((𝕕 c).Φ t.succ ∗ (𝕕 c).owesAt ι t.succ
    ∗ owns (c : Thread nD τ) (st0 t) fullShare ((𝕕 c).after 0 t)
    ∗ owns (c : Thread nD τ) (st1 t) fullShare ((𝕕 c).after 1 t)
    ∗ owns (c : Thread nD τ) (st2 t) fullShare ((𝕕 c).after 2 t))

/-- The body at any point: the inputs' buffers hold their blocks, so the run applies. -/
theorem body_sound (c : Dev nD) (t : Fin cfg0.N) :
    bodyPre (U := U) (Lvl := Lvl) V D ι c t ⊢ wp frame (wpE (defs₀ (F := F)) 𝒱₀ c none) Set.univ (bodyAt0 t) (fun _ => bodyPost (U := U) (Lvl := Lvl) V D ι c t) := by
  unfold bodyPre bodyPost bodyAt0
  simp only [before0, before1]
  rw [show (𝕕 c).Φ t.succ = (𝕕 c).Φ t.castSucc from rfl,
    show (𝕕 c).owesAt ι t.succ = (𝕕 c).owesAt ι t.castSucc from rfl,
    after0, after1, after2]
  iintro ⟨HΦ, Ho, ⟨%d0, H0⟩, ⟨%d1, H1⟩, ⟨%d2, H2⟩⟩
  iapply (run (Ix := Ix) (U := U) (Lvl := Lvl) 𝒱₀ c (grid0.coords t) (st0 t) (st0_whole t) (st1 t) (st1_whole t) (st2 t) (st2_whole t) (blk V c 0 t) (blk V c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

theorem body_row (t : Fin cfg0.N) :
    defs₀ (F := F) .tc cfg0.body (cfg0.bodyArgs t (cfg0.slots t)) = bodyAt0 t := by
  unfold defs₀; rw [Defs.onTc_tc]

/-- The obligation the pipeline asks of the body, at every point. -/
theorem body_obligation (c : Dev nD) : BodyObligation (𝕕 c) (defs₀ (F := F)) 𝒱₀ ι Set.univ := fun t => by
  rw [bigSep_W0, bigSep_W0, body_row]
  exact triple_restated (body_sound (U := U) (Lvl := Lvl) 𝒱₀ V D ι c t) rfl .rfl fun _ => .rfl

end Cert.KernelIdeal.Call0

end
-- ==== Proof.KernelIdeal.Call1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.Conds

/-! The second call: for each block of 400 rows of the adjacency matrix its scaled copy, the head's layer, that layer's first product and the row sums. -/

@[expose] public section

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- What the call carries from point to point: the buffers it does not use, and the generator's register. -/
def rest (c : Dev nD) : sProp 𝕄 :=
  iprop(Pipeline.scopedRest (Ix := Ix) (Name := ℕ) (U := U) (Lvl := Lvl) (Val := Elt F) spec1 c ∗ ∃ r, prngReg c r)

/-- The block of window `w` at point `t`, cut from its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's buffer holds its block at every point, whatever the proof data, if the body leaves the block in place. -/
theorem before0_of {c : Dev nD} (dat : Dat τ (Elt F) Ix ℕ U Lvl cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Window 1's buffer holds its block at every point, whatever the proof data, if the body leaves the block in place. -/
theorem before1_of {c : Dev nD} (dat : Dat τ (Elt F) Ix ℕ U Lvl cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Window 2's buffer holds its block at every point, whatever the proof data, if the body leaves the block in place. -/
theorem before2_of {c : Dev nD} (dat : Dat τ (Elt F) Ix ℕ U Lvl cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Window 3's buffer holds its block at every point, whatever the proof data, if the body leaves the block in place. -/
theorem before3_of {c : Dev nD} (dat : Dat τ (Elt F) Ix ℕ U Lvl cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Window 0's staging buffer at point `t`, and that it is a whole buffer. -/
abbrev st0 (t : Fin cfg1.N) : Memref sig .tc .vmem S400x10000 .f32 := win1_0.stage (cfg1.slots t 0)
theorem st0_whole (t : Fin cfg1.N) : (st0 t).IsWhole := hstage1_0 ((cfg1.slots t 0).cast nbuf1_0)
/-- Window 1's staging buffer at point `t`, and that it is a whole buffer. -/
abbrev st1 (t : Fin cfg1.N) : Memref sig .tc .vmem S10000x64 .f32 := win1_1.stage (cfg1.slots t 1)
theorem st1_whole (t : Fin cfg1.N) : (st1 t).IsWhole := hstage1_1 ((cfg1.slots t 1).cast nbuf1_1)
/-- Window 2's staging buffer at point `t`, and that it is a whole buffer. -/
abbrev st2 (t : Fin cfg1.N) : Memref sig .tc .vmem S1x64 .f32 := win1_2.stage (cfg1.slots t 2)
theorem st2_whole (t : Fin cfg1.N) : (st2 t).IsWhole := hstage1_2 ((cfg1.slots t 2).cast nbuf1_2)
/-- Window 3's staging buffer at point `t`, and that it is a whole buffer. -/
abbrev st3 (t : Fin cfg1.N) : Memref sig .tc .vmem S64x64 .f32 := win1_3.stage (cfg1.slots t 3)
theorem st3_whole (t : Fin cfg1.N) : (st3 t).IsWhole := hstage1_3 ((cfg1.slots t 3).cast nbuf1_3)
/-- Window 4's staging buffer at point `t`, and that it is a whole buffer. -/
abbrev st4 (t : Fin cfg1.N) : Memref sig .tc .vmem S400x10000 .fp8e4m3 := win1_4.stage (cfg1.slots t 4)
theorem st4_whole (t : Fin cfg1.N) : (st4 t).IsWhole := hstage1_4 ((cfg1.slots t 4).cast nbuf1_4)
/-- Window 5's staging buffer at point `t`, and that it is a whole buffer. -/
abbrev st5 (t : Fin cfg1.N) : Memref sig .tc .vmem S400x64 .f32 := win1_5.stage (cfg1.slots t 5)
theorem st5_whole (t : Fin cfg1.N) : (st5 t).IsWhole := hstage1_5 ((cfg1.slots t 5).cast nbuf1_5)
/-- Window 6's staging buffer at point `t`, and that it is a whole buffer. -/
abbrev st6 (t : Fin cfg1.N) : Memref sig .tc .vmem S400x64 .f32 := win1_6.stage (cfg1.slots t 6)
theorem st6_whole (t : Fin cfg1.N) : (st6 t).IsWhole := hstage1_6 ((cfg1.slots t 6).cast nbuf1_6)
/-- Window 7's staging buffer at point `t`, and that it is a whole buffer. -/
abbrev st7 (t : Fin cfg1.N) : Memref sig .tc .vmem S400x1 .f32 := win1_7.stage (cfg1.slots t 7)
theorem st7_whole (t : Fin cfg1.N) : (st7 t).IsWhole := hstage1_7 ((cfg1.slots t 7).cast nbuf1_7)

set_option maxHeartbeats 2000000 in
/-- The body, run once: the inputs stay, each output holds its value. -/
theorem run (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S400x10000 .fp8e4m3) (harg5 : arg5.IsWhole) (arg6 : Memref sig .tc .vmem S400x64 .f32) (harg6 : arg6.IsWhole) (arg7 : Memref sig .tc .vmem S400x64 .f32) (harg7 : arg7.IsWhole) (arg8 : Memref sig .tc .vmem S400x1 .f32) (harg8 : arg8.IsWhole)
    (x0 : Vec F S400x10000 .f32) (x1 : Vec F S10000x64 .f32) (x2 : Vec F S1x64 .f32) (x3 : Vec F S64x64 .f32) (x4 : Vec F S400x10000 .fp8e4m3) (x5 : Vec F S400x64 .f32) (x6 : Vec F S400x64 .f32) (x7 : Vec F S400x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k1_pay1 x0) ∗ owns (c : Thread nD τ) arg6 fullShare (k1_pay3 x0 x1 x2) ∗ owns (c : Thread nD τ) arg7 fullShare (k1_pay4 x0 x1 x2 x3) ∗ owns (c : Thread nD τ) arg8 fullShare (k1_pay2 x0)) -∗ K ⟨⟩))
      ⊢ wp frame (wpE (defs₀ (F := F)) 𝒱₀ c none) E (cc1__pass0_body i arg1 harg1 arg2 harg2 arg3 harg3 arg4 harg4 arg5 harg5 arg6 harg6 arg7 harg7 arg8 harg8) K := by
  simp only [cc1__pass0_body_eq_skeleton]; unfold cc1__pass0_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  sl_exec
  sl_step
  iapply Hk
  isplitl [H0]
  · iexists _; isplitr
    swap; · iexact H0
    ipureintro
    exact harg1.read_unread _
  isplitl [H1]
  · iexists _; isplitr
    swap; · iexact H1
    ipureintro
    exact harg2.read_unread _
  isplitl [H2]
  · iexists _; isplitr
    swap; · iexact H2
    ipureintro
    exact harg3.read_unread _
  isplitl [H3]
  · iexists _; isplitr
    swap; · iexact H3
    ipureintro
    exact harg4.read_unread _
  isplitl [H4]
  · iexists _; isplitr
    swap; · iexact H4
    ipureintro
    sl_unfold_run_names
    rw [View.read_writes_full]
    simp only [Main.load_whole, Main.load_stored, harg1.read_unread, harg2.read_unread, harg3.read_unread, harg4.read_unread, harg5.read_unread, harg6.read_unread, harg7.read_unread, harg8.read_unread]
  isplitl [H5]
  · iexists _; isplitr
    swap; · iexact H5
    ipureintro
    sl_unfold_run_names
    rw [View.read_writes_full]
    simp only [Main.load_whole, Main.load_stored, harg1.read_unread, harg2.read_unread, harg3.read_unread, harg4.read_unread, harg5.read_unread, harg6.read_unread, harg7.read_unread, harg8.read_unread]
  isplitl [H6]
  · iexists _; isplitr
    swap; · iexact H6
    ipureintro
    sl_unfold_run_names
    rw [View.read_writes_full]
    simp only [Main.load_whole, Main.load_stored, harg1.read_unread, harg2.read_unread, harg3.read_unread, harg4.read_unread, harg5.read_unread, harg6.read_unread, harg7.read_unread, harg8.read_unread]
  · iexists _; isplitr
    swap; · iexact H7
    ipureintro
    sl_unfold_run_names
    rw [View.read_writes_full]
    simp only [Main.load_whole, Main.load_stored, harg1.read_unread, harg2.read_unread, harg3.read_unread, harg4.read_unread, harg5.read_unread, harg6.read_unread, harg7.read_unread, harg8.read_unread]

/-- The proof data of the call on core `c`: the arrays as the call finds them; after the body at point `t` each input's buffer at its block and
each output's at its value on those blocks. -/
def dat (c : Dev nD) : Dat τ (Elt F) Ix ℕ U Lvl cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => k1_pay1 (blk V c 0 t)
    | ⟨5, _⟩ => k1_pay3 (blk V c 0 t) (blk V c 1 t) (blk V c 2 t)
    | ⟨6, _⟩ => k1_pay4 (blk V c 0 t) (blk V c 1 t) (blk V c 2 t) (blk V c 3 t)
    | ⟨7, _⟩ => k1_pay2 (blk V c 0 t)
  Φ _ := rest (F := F) (Ix := Ix) (U := U) (Lvl := Lvl) c
  q _ := fullShare
  owed _ := D c

variable (ι : Ix)

local notation "𝕕" => dat (Ix := Ix) (U := U) (Lvl := Lvl) V D

theorem dat_A (c : Dev nD) (w : Fin cfg1.W) : (𝕕 c).A w = V c (Pipeline.arrRef spec1 w) := by
  dsimp only [dat]

theorem after0 (c : Dev nD) (t : Fin cfg1.N) : (𝕕 c).after 0 t = blk V c 0 t := by dsimp only [dat]
theorem after1 (c : Dev nD) (t : Fin cfg1.N) : (𝕕 c).after 1 t = blk V c 1 t := by dsimp only [dat]
theorem after2 (c : Dev nD) (t : Fin cfg1.N) : (𝕕 c).after 2 t = blk V c 2 t := by dsimp only [dat]
theorem after3 (c : Dev nD) (t : Fin cfg1.N) : (𝕕 c).after 3 t = blk V c 3 t := by dsimp only [dat]
theorem after4 (c : Dev nD) (t : Fin cfg1.N) : (𝕕 c).after 4 t = k1_pay1 (blk V c 0 t) := by dsimp only [dat]
theorem after5 (c : Dev nD) (t : Fin cfg1.N) : (𝕕 c).after 5 t = k1_pay3 (blk V c 0 t) (blk V c 1 t) (blk V c 2 t) := by dsimp only [dat]
theorem after6 (c : Dev nD) (t : Fin cfg1.N) : (𝕕 c).after 6 t = k1_pay4 (blk V c 0 t) (blk V c 1 t) (blk V c 2 t) (blk V c 3 t) := by dsimp only [dat]
theorem after7 (c : Dev nD) (t : Fin cfg1.N) : (𝕕 c).after 7 t = k1_pay2 (blk V c 0 t) := by dsimp only [dat]
theorem before0 (c : Dev nD) (t : Fin cfg1.N) (d) : (𝕕 c).before 0 t d = blk V c 0 t :=
  before0_of V (𝕕 c) (dat_A V D c 0) (after0 V D c) t d
theorem before1 (c : Dev nD) (t : Fin cfg1.N) (d) : (𝕕 c).before 1 t d = blk V c 1 t :=
  before1_of V (𝕕 c) (dat_A V D c 1) (after1 V D c) t d
theorem before2 (c : Dev nD) (t : Fin cfg1.N) (d) : (𝕕 c).before 2 t d = blk V c 2 t :=
  before2_of V (𝕕 c) (dat_A V D c 2) (after2 V D c) t d
theorem before3 (c : Dev nD) (t : Fin cfg1.N) (d) : (𝕕 c).before 3 t d = blk V c 3 t :=
  before3_of V (𝕕 c) (dat_A V D c 3) (after3 V D c) t d

/-- What the body is called with at point `t`, -/
def bodyPre (c : Dev nD) (t : Fin cfg1.N) : sProp 𝕄 :=
  iprop((𝕕 c).Φ t.castSucc ∗ (𝕕 c).owesAt ι t.castSucc
    ∗ (∃ d, owns (c : Thread nD τ) (st0 t) fullShare ((𝕕 c).before 0 t d))
    ∗ (∃ d, owns (c : Thread nD τ) (st1 t) fullShare ((𝕕 c).before 1 t d))
    ∗ (∃ d, owns (c : Thread nD τ) (st2 t) fullShare ((𝕕 c).before 2 t d))
    ∗ (∃ d, owns (c : Thread nD τ) (st3 t) fullShare ((𝕕 c).before 3 t d))
    ∗ (∃ d, owns (c : Thread nD τ) (st4 t) fullShare ((𝕕 c).before 4 t d))
    ∗ (∃ d, owns (c : Thread nD τ) (st5 t) fullShare ((𝕕 c).before 5 t d))
    ∗ (∃ d, owns (c : Thread nD τ) (st6 t) fullShare ((𝕕 c).before 6 t d))
    ∗ (∃ d, owns (c : Thread nD τ) (st7 t) fullShare ((𝕕 c).before 7 t d)))

/-- and what it returns. -/
def bodyPost (c : Dev nD) (t : Fin cfg1.N) : sProp 𝕄 :=
  iprop((𝕕 c).Φ t.succ ∗ (𝕕 c).owesAt ι t.succ
    ∗ owns (c : Thread nD τ) (st0 t) fullShare ((𝕕 c).after 0 t)
    ∗ owns (c : Thread nD τ) (st1 t) fullShare ((𝕕 c).after 1 t)
    ∗ owns (c : Thread nD τ) (st2 t) fullShare ((𝕕 c).after 2 t)
    ∗ owns (c : Thread nD τ) (st3 t) fullShare ((𝕕 c).after 3 t)
    ∗ owns (c : Thread nD τ) (st4 t) fullShare ((𝕕 c).after 4 t)
    ∗ owns (c : Thread nD τ) (st5 t) fullShare ((𝕕 c).after 5 t)
    ∗ owns (c : Thread nD τ) (st6 t) fullShare ((𝕕 c).after 6 t)
    ∗ owns (c : Thread nD τ) (st7 t) fullShare ((𝕕 c).after 7 t))

/-- The body at any point: the inputs' buffers hold their blocks, so the run applies. -/
theorem body_sound (c : Dev nD) (t : Fin cfg1.N) :
    bodyPre (U := U) (Lvl := Lvl) V D ι c t ⊢ wp frame (wpE (defs₀ (F := F)) 𝒱₀ c none) Set.univ (bodyAt1 t) (fun _ => bodyPost (U := U) (Lvl := Lvl) V D ι c t) := by
  unfold bodyPre bodyPost bodyAt1
  simp only [before0, before1, before2, before3]
  rw [show (𝕕 c).Φ t.succ = (𝕕 c).Φ t.castSucc from rfl,
    show (𝕕 c).owesAt ι t.succ = (𝕕 c).owesAt ι t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run (Ix := Ix) (U := U) (Lvl := Lvl) 𝒱₀ c (grid1.coords t) (st0 t) (st0_whole t) (st1 t) (st1_whole t) (st2 t) (st2_whole t) (st3 t) (st3_whole t) (st4 t) (st4_whole t) (st5 t) (st5_whole t) (st6 t) (st6_whole t) (st7 t) (st7_whole t) (blk V c 0 t) (blk V c 1 t) (blk V c 2 t) (blk V c 3 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg1.N) :
    defs₀ (F := F) .tc cfg1.body (cfg1.bodyArgs t (cfg1.slots t)) = bodyAt1 t := by
  unfold defs₀; rw [Defs.onTc_tc]

/-- The obligation the pipeline asks of the body, at every point. -/
theorem body_obligation (c : Dev nD) : BodyObligation (𝕕 c) (defs₀ (F := F)) 𝒱₀ ι Set.univ := fun t => by
  rw [bigSep_W1, bigSep_W1, body_row]
  exact triple_restated (body_sound (U := U) (Lvl := Lvl) 𝒱₀ V D ι c t) rfl .rfl fun _ => .rfl

end Cert.KernelIdeal.Call1

end
-- ==== Proof.KernelIdeal.State.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.Conds
public import proofs.«01_k».proof.Proof.Rows
public import Idealize.ShloMosaic.Lib.Pointwise.Reshape

/-! The last call's values: what each phase computes from the call's inputs, what the scratch buffers hold between points, and how a point moves that on. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
open Cert.Rows

/-- The call's inputs. -/
structure Ins (F : FTy → Type) [FloatOps F] where
  x0 : Vec F S10000x10000 .fp8e4m3
  x1 : Vec F S10000x1 .f32
  x2 : Vec F S10000x64 .f32
  x3 : Vec F S10000x64 .f32
  x4 : Vec F S1x64 .f32
  x5 : Vec F S64x64 .f32
  x6 : Vec F S1x64 .f32
  x7 : Vec F S64x64 .f32
  x8 : Vec F S1x64 .f32
  x9 : Vec F S64x64 .f32
  x10 : Vec F S1x64 .f32
  x11 : Vec F S192x256 .f32
  x12 : Vec F S1x256 .f32
  x13 : Vec F S256x64 .f32
  x14 : Vec F S1x64 .f32
  x15 : Vec F S64x13 .f32
  x16 : Vec F S1x13 .f32

/-- The scratch buffers: two arrays of the next aggregation's operand, its levels and its column means, the second block's layer, the first block of
rows of the scaled matrix, and the last product. -/
structure St (F : FTy → Type) [FloatOps F] where
  a : Vec F S10000x64 .f32
  b : Vec F S10000x64 .f32
  q : Vec F S10000x64 .fp8e4m3
  m : Vec F S1x64 .f32
  f : Vec F S10000x64 .f32
  r : Vec F S1000x10000 .fp8e4m3
  acc : Vec F S1000x64 .f32

variable (I : Ins F)

/-- Block `i` of the matrix times an array of levels, -/
def prod (Q : Vec F S10000x64 .fp8e4m3) (i : Fin 10) : Vec F S1000x64 .f32 := k2_pay1 (rows I.x0 i) Q
/-- and block `i` of the row sums. -/
def sums (i : Fin 10) : FVec F S1000x1 .f32 := k2_pay11 (rows I.x1 i)

/-- Phase 0: the levels and means of its operand, and the array it leaves. -/
def Q0 : Vec F S10000x64 .fp8e4m3 := k2_pay16 I.x2
def M0 : Vec F S1x64 .f32 := k2_pay15 I.x2
def A0b (i : Fin 10) : Vec F S1000x64 .f32 := k2_pay3 (sums I i) (M0 I) (prod I (Q0 I) i) I.x4 I.x5
def A0 : Vec F S10000x64 .f32 := glue (A0b I)

/-- Phase 1: likewise, with two arrays left. -/
def Q1 : Vec F S10000x64 .fp8e4m3 := k2_pay19 (A0 I)
def M1 : Vec F S1x64 .f32 := k2_pay18 (A0 I)
def F1b (i : Fin 10) : Vec F S1000x64 .f32 := k2_pay5 (sums I i) (M1 I) (prod I (Q1 I) i) I.x6 (rows I.x3 i)
def F1 : Vec F S10000x64 .f32 := glue (F1b I)
def Bb (i : Fin 10) : Vec F S1000x64 .f32 := k2_pay6 (sums I i) (M1 I) (prod I (Q1 I) i) I.x6 (rows I.x3 i) I.x7
def B : Vec F S10000x64 .f32 := glue (Bb I)

/-- Phase 2. -/
def Q2 : Vec F S10000x64 .fp8e4m3 := k2_pay22 (B I)
def M2 : Vec F S1x64 .f32 := k2_pay21 (B I)
def A2b (i : Fin 10) : Vec F S1000x64 .f32 := k2_pay7 (sums I i) (M2 I) (prod I (Q2 I) i) I.x8 I.x9
def A2 : Vec F S10000x64 .f32 := glue (A2b I)

/-- Phase 3: the two results' blocks. -/
def Q3 : Vec F S10000x64 .fp8e4m3 := k2_pay25 (A2 I)
def M3 : Vec F S1x64 .f32 := k2_pay24 (A2 I)
def fus (i : Fin 10) : Vec F S1000x256 .f32 := k2_pay9 (sums I i) (F1b I i) (M3 I) (prod I (Q3 I) i) I.x10 (rows I.x3 i) I.x11 I.x12
def out (i : Fin 10) : Vec F S1000x13 .f32 :=
  k2_pay8 (k2_pay10 (sums I i) (F1b I i) (M3 I) (prod I (Q3 I) i) I.x10 (rows I.x3 i) I.x11 I.x12 I.x13 I.x14) I.x15 I.x16

/-- What the scratch buffers hold before point `n`. -/
structure Inv (n : ℕ) (S : St F) : Prop where
  r : 1 ≤ n → S.r = k2_pay12 (rows I.x0 0)
  q0 : 0 < n → n < 10 → S.q = Q0 I ∧ S.m = M0 I
  q1 : 10 < n → n < 20 → S.q = Q1 I ∧ S.m = M1 I
  q2 : 20 < n → n < 30 → S.q = Q2 I ∧ S.m = M2 I
  q3 : 30 < n → S.q = Q3 I ∧ S.m = M3 I
  a0 : n ≤ 20 → Upto (1000 * n) S.a (A0 I)
  b : Upto (1000 * (n - 10)) S.b (B I)
  f : Upto (1000 * (n - 10)) S.f (F1 I)
  a2 : Upto (1000 * (n - 20)) S.a (A2 I)

variable {I}

/-- Nothing is asked before the first point. -/
theorem Inv.start (S : St F) : Inv I 0 S where
  r h := absurd h (by decide)
  q0 h := absurd h (by decide)
  q1 h := absurd h (by decide)
  q2 h := absurd h (by decide)
  q3 h := absurd h (by decide)
  a0 _ := Upto.none _ _
  b := Upto.none _ _
  f := Upto.none _ _
  a2 := Upto.none _ _

/-- The held-back block multiplies as the block itself. -/
theorem held_prod (Q : Vec F S10000x64 .fp8e4m3) : k2_pay2 (k2_pay12 (rows I.x0 0)) Q = prod I Q 0 := by
  unfold prod k2_pay2 k2_pay12 k2_pay1
  simp only [shapeCast_id]

/-- A block of rows read out of a finished array. -/
theorem window_glue {x : Vec F S10000x64 .f32} {g : Fin 10 → Vec F S1000x64 .f32} {k : ℕ} (h : Upto k x (glue g)) (hk : 10000 ≤ k) (i : Fin 10)
    {j : ℕ} (hj : j = i.val) (inb : ∀ a, (![1000 * j, 0] : Fin 2 → ℕ) a + S1000x64.size a ≤ S10000x64.size a) :
    VecWindow.window x ![1000 * j, 0] S1000x64.size inb = g i := by
  subst hj
  rw [h.all hk]
  exact rows_glue g i

variable {n : ℕ} {S : St F}

/-- The first point of phase 0: the first block is held back, and the first block of rows written. -/
theorem Inv.first0 {j : ℕ} (h : Inv I n S) (hn : n = 0) (i : Fin 10) (hi : n % 10 = i.val) (hj : j = i.val) (acc) : Inv I (n + 1)
    ⟨VecWindow.put S.a ![1000 * j, 0] S1000x64.size (A0b I i), S.b, Q0 I, M0 I, S.f, k2_pay12 (rows I.x0 i), acc⟩ := by
  have e : i = 0 := Fin.ext (by rw [← hi, hn]; rfl)
  refine ⟨fun _ => by rw [e], fun _ _ => ⟨rfl, rfl⟩, fun _ => by omega, fun _ => by omega, fun _ => by omega, fun _ => ?_, ?_, ?_, ?_⟩
  · have : n + 1 = i.val + 1 := by omega
    rw [this]; exact Upto.put i hj ((h.a0 (by omega)).mono (by omega))
  · exact h.b.mono (by omega)
  · exact h.f.mono (by omega)
  · rw [show 1000 * (n + 1 - 20) = 0 by omega]; exact Upto.none _ _

/-- The later points of phase 0. -/
theorem Inv.later0 {j : ℕ} (h : Inv I n S) (hn : 0 < n) (hn' : n < 10) (i : Fin 10) (hi : n % 10 = i.val) (hj : j = i.val) (acc) : Inv I (n + 1)
    ⟨VecWindow.put S.a ![1000 * j, 0] S1000x64.size (A0b I i), S.b, S.q, S.m, S.f, S.r, acc⟩ := by
  refine ⟨fun _ => h.r (by omega), fun _ _ => h.q0 hn hn', fun _ => by omega, fun _ => by omega, fun _ => by omega, fun _ => ?_, ?_, ?_, ?_⟩
  · have : n + 1 = i.val + 1 := by omega
    rw [this]; exact Upto.put i hj ((h.a0 (by omega)).mono (by omega))
  · exact h.b.mono (by omega)
  · exact h.f.mono (by omega)
  · rw [show 1000 * (n + 1 - 20) = 0 by omega]; exact Upto.none _ _

/-- The points of phase 1. -/
theorem Inv.step1 {j : ℕ} (h : Inv I n S) (hn : 10 ≤ n) (hn' : n < 20) (i : Fin 10) (hi : n % 10 = i.val) (hj : j = i.val) (acc)
    {q : Vec F S10000x64 .fp8e4m3} {m : Vec F S1x64 .f32} (hq : q = Q1 I) (hm : m = M1 I) : Inv I (n + 1)
    ⟨S.a, VecWindow.put S.b ![1000 * j, 0] S1000x64.size (Bb I i), q, m, VecWindow.put S.f ![1000 * j, 0] S1000x64.size (F1b I i), S.r, acc⟩ := by
  refine ⟨fun _ => h.r (by omega), fun _ => by omega, fun _ _ => ⟨hq, hm⟩, fun _ => by omega, fun _ => by omega, fun _ => ?_, ?_, ?_, ?_⟩
  · intro y _; exact h.a0 (by omega) y (by have := row_lt y; omega)
  · have : n + 1 - 10 = i.val + 1 := by omega
    rw [this]; exact Upto.put i hj (h.b.mono (by omega))
  · have : n + 1 - 10 = i.val + 1 := by omega
    rw [this]; exact Upto.put i hj (h.f.mono (by omega))
  · rw [show 1000 * (n + 1 - 20) = 0 by omega]; exact Upto.none _ _

/-- The points of phase 2. -/
theorem Inv.step2 {j : ℕ} (h : Inv I n S) (hn : 20 ≤ n) (hn' : n < 30) (i : Fin 10) (hi : n % 10 = i.val) (hj : j = i.val) (acc)
    {q : Vec F S10000x64 .fp8e4m3} {m : Vec F S1x64 .f32} (hq : q = Q2 I) (hm : m = M2 I) : Inv I (n + 1)
    ⟨VecWindow.put S.a ![1000 * j, 0] S1000x64.size (A2b I i), S.b, q, m, S.f, S.r, acc⟩ := by
  refine ⟨fun _ => h.r (by omega), fun _ => by omega, fun _ => by omega, fun _ _ => ⟨hq, hm⟩, fun _ => by omega, fun _ => by omega, ?_, ?_, ?_⟩
  · intro y _; exact h.b y (by have := row_lt y; omega)
  · intro y _; exact h.f y (by have := row_lt y; omega)
  · have : n + 1 - 20 = i.val + 1 := by omega
    rw [this]; exact Upto.put i hj (h.a2.mono (by omega))

/-- The points of phase 3. -/
theorem Inv.step3 (h : Inv I n S) (hn : 30 ≤ n) (acc) {q : Vec F S10000x64 .fp8e4m3} {m : Vec F S1x64 .f32} (hq : q = Q3 I) (hm : m = M3 I) :
    Inv I (n + 1) ⟨S.a, S.b, q, m, S.f, S.r, acc⟩ := by
  refine ⟨fun _ => h.r (by omega), fun _ => by omega, fun _ => by omega, fun _ => by omega, fun _ => ⟨hq, hm⟩, fun _ => by omega, ?_, ?_, ?_⟩
  · intro y _; exact h.b y (by have := row_lt y; omega)
  · intro y _; exact h.f y (by have := row_lt y; omega)
  · intro y _; exact h.a2 y (by have := row_lt y; omega)

/-- What a phase's first point quantises: the array the phase before it left. -/
theorem Inv.a0_all (h : Inv I n S) (hn : 10 ≤ n) (hn' : n ≤ 20) : S.a = A0 I := (h.a0 hn').all (by omega)
theorem Inv.b_all (h : Inv I n S) (hn : 20 ≤ n) : S.b = B I := h.b.all (by omega)
theorem Inv.a2_all (h : Inv I n S) (hn : 30 ≤ n) : S.a = A2 I := h.a2.all (by omega)

/-! ## The grid, and the blocks the call is handed -/

theorem at0 : ∀ t : Fin cfg2.N, (grid2.coords t 0).val = t.val / 10 := by decide +kernel
theorem at1 : ∀ t : Fin cfg2.N, (grid2.coords t 1).val = t.val % 10 := by decide +kernel
theorem idle17 : ∀ t : Fin cfg2.N, cfg2.idle 17 (cfg2.grid.coords t) = decide (t.val < 30) := by decide +kernel
theorem idle18 : ∀ t : Fin cfg2.N, cfg2.idle 18 (cfg2.grid.coords t) = decide (t.val < 30) := by decide +kernel
theorem flush17 : ∀ t : Fin cfg2.N, (cfg2.win 17).flush t = decide (30 ≤ t.val) := by decide +kernel
theorem flush18 : ∀ t : Fin cfg2.N, (cfg2.win 18).flush t = decide (30 ≤ t.val) := by decide +kernel
theorem index0 : ∀ t : Fin cfg2.N, (t.val < 10 ∨ t.val % 10 ≠ 0) → cc2_transform_0 (grid2.coords t) 0 = t.val % 10 := by decide +kernel
theorem index1 : ∀ t : Fin cfg2.N, cc2_transform_1 (grid2.coords t) 0 = t.val % 10 := by decide +kernel
theorem index3 : ∀ t : Fin cfg2.N, cc2_transform_3 (grid2.coords t) 0 = t.val % 10 := by decide +kernel

theorem N_lt (t : Fin cfg2.N) : t.val < 40 := lt_of_lt_of_eq t.isLt N_2

/-- The point's block of rows. -/
def ix (t : Fin cfg2.N) : Fin 10 := ⟨t.val % 10, Nat.mod_lt _ (by decide)⟩

variable (V : (c : Dev nD) → (b : Ref sig .tc) → Buf (Elt F) ((c : Thread nD τ).loc b))

/-- The block of window `w` at point `t`, cut from its array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The inputs as the call finds them. -/
def ins (c : Dev nD) : Ins F where
  x0 := V c (Pipeline.arrRef spec2 0)
  x1 := V c (Pipeline.arrRef spec2 1)
  x2 := V c (Pipeline.arrRef spec2 2)
  x3 := V c (Pipeline.arrRef spec2 3)
  x4 := V c (Pipeline.arrRef spec2 4)
  x5 := V c (Pipeline.arrRef spec2 5)
  x6 := V c (Pipeline.arrRef spec2 6)
  x7 := V c (Pipeline.arrRef spec2 7)
  x8 := V c (Pipeline.arrRef spec2 8)
  x9 := V c (Pipeline.arrRef spec2 9)
  x10 := V c (Pipeline.arrRef spec2 10)
  x11 := V c (Pipeline.arrRef spec2 11)
  x12 := V c (Pipeline.arrRef spec2 12)
  x13 := V c (Pipeline.arrRef spec2 13)
  x14 := V c (Pipeline.arrRef spec2 14)
  x15 := V c (Pipeline.arrRef spec2 15)
  x16 := V c (Pipeline.arrRef spec2 16)

theorem blk0 (c : Dev nD) (t : Fin cfg2.N) (h : t.val < 10 ∨ t.val % 10 ≠ 0) : blk V c 0 t = rows (ins V c).x0 (ix t) := by
  funext y
  rw [rows_apply]
  show (ins V c).x0 _ = (ins V c).x0 _
  congr 1
  funext a
  apply Fin.ext
  match a with
  | 0 =>
    have := index0 t h
    show cc2_transform_0 (grid2.coords t) 0 * 1000 + 1 * (y 0).val = 1000 * (t.val % 10) + (y 0).val
    omega
  | 1 => show 0 * 10000 + 1 * (y 1).val = (y 1).val; omega
theorem blk1 (c : Dev nD) (t : Fin cfg2.N) : blk V c 1 t = rows (ins V c).x1 (ix t) := by
  funext y
  rw [rows_apply]
  show (ins V c).x1 _ = (ins V c).x1 _
  congr 1
  funext a
  apply Fin.ext
  match a with
  | 0 =>
    have := index1 t
    show cc2_transform_1 (grid2.coords t) 0 * 1000 + 1 * (y 0).val = 1000 * (t.val % 10) + (y 0).val
    omega
  | 1 => show 0 * 1 + 1 * (y 1).val = (y 1).val; omega
theorem blk2 (c : Dev nD) (t : Fin cfg2.N) : blk V c 2 t = (ins V c).x2 := by
  funext y
  show (ins V c).x2 _ = (ins V c).x2 _
  congr 1
  funext a
  apply Fin.ext
  match a with
  | 0 => show 0 * 10000 + 1 * (y 0).val = (y 0).val; omega
  | 1 => show 0 * 64 + 1 * (y 1).val = (y 1).val; omega
theorem blk3 (c : Dev nD) (t : Fin cfg2.N) : blk V c 3 t = rows (ins V c).x3 (ix t) := by
  funext y
  rw [rows_apply]
  show (ins V c).x3 _ = (ins V c).x3 _
  congr 1
  funext a
  apply Fin.ext
  match a with
  | 0 =>
    have := index3 t
    show cc2_transform_3 (grid2.coords t) 0 * 1000 + 1 * (y 0).val = 1000 * (t.val % 10) + (y 0).val
    omega
  | 1 => show 0 * 64 + 1 * (y 1).val = (y 1).val; omega
theorem blk4 (c : Dev nD) (t : Fin cfg2.N) : blk V c 4 t = (ins V c).x4 := by
  funext y
  show (ins V c).x4 _ = (ins V c).x4 _
  congr 1
  funext a
  apply Fin.ext
  match a with
  | 0 => show 0 * 1 + 1 * (y 0).val = (y 0).val; omega
  | 1 => show 0 * 64 + 1 * (y 1).val = (y 1).val; omega
theorem blk5 (c : Dev nD) (t : Fin cfg2.N) : blk V c 5 t = (ins V c).x5 := by
  funext y
  show (ins V c).x5 _ = (ins V c).x5 _
  congr 1
  funext a
  apply Fin.ext
  match a with
  | 0 => show 0 * 64 + 1 * (y 0).val = (y 0).val; omega
  | 1 => show 0 * 64 + 1 * (y 1).val = (y 1).val; omega
theorem blk6 (c : Dev nD) (t : Fin cfg2.N) : blk V c 6 t = (ins V c).x6 := by
  funext y
  show (ins V c).x6 _ = (ins V c).x6 _
  congr 1
  funext a
  apply Fin.ext
  match a with
  | 0 => show 0 * 1 + 1 * (y 0).val = (y 0).val; omega
  | 1 => show 0 * 64 + 1 * (y 1).val = (y 1).val; omega
theorem blk7 (c : Dev nD) (t : Fin cfg2.N) : blk V c 7 t = (ins V c).x7 := by
  funext y
  show (ins V c).x7 _ = (ins V c).x7 _
  congr 1
  funext a
  apply Fin.ext
  match a with
  | 0 => show 0 * 64 + 1 * (y 0).val = (y 0).val; omega
  | 1 => show 0 * 64 + 1 * (y 1).val = (y 1).val; omega
theorem blk8 (c : Dev nD) (t : Fin cfg2.N) : blk V c 8 t = (ins V c).x8 := by
  funext y
  show (ins V c).x8 _ = (ins V c).x8 _
  congr 1
  funext a
  apply Fin.ext
  match a with
  | 0 => show 0 * 1 + 1 * (y 0).val = (y 0).val; omega
  | 1 => show 0 * 64 + 1 * (y 1).val = (y 1).val; omega
theorem blk9 (c : Dev nD) (t : Fin cfg2.N) : blk V c 9 t = (ins V c).x9 := by
  funext y
  show (ins V c).x9 _ = (ins V c).x9 _
  congr 1
  funext a
  apply Fin.ext
  match a with
  | 0 => show 0 * 64 + 1 * (y 0).val = (y 0).val; omega
  | 1 => show 0 * 64 + 1 * (y 1).val = (y 1).val; omega
theorem blk10 (c : Dev nD) (t : Fin cfg2.N) : blk V c 10 t = (ins V c).x10 := by
  funext y
  show (ins V c).x10 _ = (ins V c).x10 _
  congr 1
  funext a
  apply Fin.ext
  match a with
  | 0 => show 0 * 1 + 1 * (y 0).val = (y 0).val; omega
  | 1 => show 0 * 64 + 1 * (y 1).val = (y 1).val; omega
theorem blk11 (c : Dev nD) (t : Fin cfg2.N) : blk V c 11 t = (ins V c).x11 := by
  funext y
  show (ins V c).x11 _ = (ins V c).x11 _
  congr 1
  funext a
  apply Fin.ext
  match a with
  | 0 => show 0 * 192 + 1 * (y 0).val = (y 0).val; omega
  | 1 => show 0 * 256 + 1 * (y 1).val = (y 1).val; omega
theorem blk12 (c : Dev nD) (t : Fin cfg2.N) : blk V c 12 t = (ins V c).x12 := by
  funext y
  show (ins V c).x12 _ = (ins V c).x12 _
  congr 1
  funext a
  apply Fin.ext
  match a with
  | 0 => show 0 * 1 + 1 * (y 0).val = (y 0).val; omega
  | 1 => show 0 * 256 + 1 * (y 1).val = (y 1).val; omega
theorem blk13 (c : Dev nD) (t : Fin cfg2.N) : blk V c 13 t = (ins V c).x13 := by
  funext y
  show (ins V c).x13 _ = (ins V c).x13 _
  congr 1
  funext a
  apply Fin.ext
  match a with
  | 0 => show 0 * 256 + 1 * (y 0).val = (y 0).val; omega
  | 1 => show 0 * 64 + 1 * (y 1).val = (y 1).val; omega
theorem blk14 (c : Dev nD) (t : Fin cfg2.N) : blk V c 14 t = (ins V c).x14 := by
  funext y
  show (ins V c).x14 _ = (ins V c).x14 _
  congr 1
  funext a
  apply Fin.ext
  match a with
  | 0 => show 0 * 1 + 1 * (y 0).val = (y 0).val; omega
  | 1 => show 0 * 64 + 1 * (y 1).val = (y 1).val; omega
theorem blk15 (c : Dev nD) (t : Fin cfg2.N) : blk V c 15 t = (ins V c).x15 := by
  funext y
  show (ins V c).x15 _ = (ins V c).x15 _
  congr 1
  funext a
  apply Fin.ext
  match a with
  | 0 => show 0 * 64 + 1 * (y 0).val = (y 0).val; omega
  | 1 => show 0 * 13 + 1 * (y 1).val = (y 1).val; omega
theorem blk16 (c : Dev nD) (t : Fin cfg2.N) : blk V c 16 t = (ins V c).x16 := by
  funext y
  show (ins V c).x16 _ = (ins V c).x16 _
  congr 1
  funext a
  apply Fin.ext
  match a with
  | 0 => show 0 * 1 + 1 * (y 0).val = (y 0).val; omega
  | 1 => show 0 * 13 + 1 * (y 1).val = (y 1).val; omega

end Cert.KernelIdeal.Main

end
-- ==== Proof.KernelIdeal.Dat2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.State

/-! The last call's proof data: what it carries from point to point, what each buffer holds after the body, and what the body is asked. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (V : (c : Dev nD) → (b : Ref sig .tc) → Buf (Elt F) ((c : Thread nD τ).loc b)) (D : Dev nD → CellTallies nD τ sig Ix)

/-- The buffers of the other calls, at any contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the call carries into point `n`: the scratch buffers at contents the invariant describes, the buffers it does not use, and the generator's
register. -/
def phi (c : Dev nD) (n : ℕ) : sProp 𝕄 :=
  iprop(∃ S : St F, ⌜Inv (ins V c) n S⌝ ∗ owns (c : Thread nD τ) (Memref.whole cc2_scratch0) fullShare S.a ∗ owns (c : Thread nD τ) (Memref.whole cc2_scratch1) fullShare S.b ∗ owns (c : Thread nD τ) (Memref.whole cc2_scratch2) fullShare S.q ∗ owns (c : Thread nD τ) (Memref.whole cc2_scratch3) fullShare S.m ∗ owns (c : Thread nD τ) (Memref.whole cc2_scratch4) fullShare S.f ∗ owns (c : Thread nD τ) (Memref.whole cc2_scratch5) fullShare S.r ∗ owns (c : Thread nD τ) (Memref.whole cc2_scratch6) fullShare S.acc
    ∗ others (F := F) (Ix := Ix) (U := U) (Lvl := Lvl) c ∗ ∃ r, prngReg c r)

/-- Window 0's buffer holds its block at every point, whatever the proof data, if the body leaves the block in place. -/
theorem before0_of {c : Dev nD} (dat : Dat τ (Elt F) Ix ℕ U Lvl cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Window 1's buffer holds its block at every point, whatever the proof data, if the body leaves the block in place. -/
theorem before1_of {c : Dev nD} (dat : Dat τ (Elt F) Ix ℕ U Lvl cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Window 2's buffer holds its block at every point, whatever the proof data, if the body leaves the block in place. -/
theorem before2_of {c : Dev nD} (dat : Dat τ (Elt F) Ix ℕ U Lvl cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Window 3's buffer holds its block at every point, whatever the proof data, if the body leaves the block in place. -/
theorem before3_of {c : Dev nD} (dat : Dat τ (Elt F) Ix ℕ U Lvl cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Window 4's buffer holds its block at every point, whatever the proof data, if the body leaves the block in place. -/
theorem before4_of {c : Dev nD} (dat : Dat τ (Elt F) Ix ℕ U Lvl cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Window 5's buffer holds its block at every point, whatever the proof data, if the body leaves the block in place. -/
theorem before5_of {c : Dev nD} (dat : Dat τ (Elt F) Ix ℕ U Lvl cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Window 6's buffer holds its block at every point, whatever the proof data, if the body leaves the block in place. -/
theorem before6_of {c : Dev nD} (dat : Dat τ (Elt F) Ix ℕ U Lvl cfg2 c) (hA : dat.A 6 = V c (Pipeline.arrRef spec2 6))
    (hafter : ∀ t, dat.after 6 t = blk V c 6 t) (t : Fin cfg2.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
/-- Window 7's buffer holds its block at every point, whatever the proof data, if the body leaves the block in place. -/
theorem before7_of {c : Dev nD} (dat : Dat τ (Elt F) Ix ℕ U Lvl cfg2 c) (hA : dat.A 7 = V c (Pipeline.arrRef spec2 7))
    (hafter : ∀ t, dat.after 7 t = blk V c 7 t) (t : Fin cfg2.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
/-- Window 8's buffer holds its block at every point, whatever the proof data, if the body leaves the block in place. -/
theorem before8_of {c : Dev nD} (dat : Dat τ (Elt F) Ix ℕ U Lvl cfg2 c) (hA : dat.A 8 = V c (Pipeline.arrRef spec2 8))
    (hafter : ∀ t, dat.after 8 t = blk V c 8 t) (t : Fin cfg2.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
/-- Window 9's buffer holds its block at every point, whatever the proof data, if the body leaves the block in place. -/
theorem before9_of {c : Dev nD} (dat : Dat τ (Elt F) Ix ℕ U Lvl cfg2 c) (hA : dat.A 9 = V c (Pipeline.arrRef spec2 9))
    (hafter : ∀ t, dat.after 9 t = blk V c 9 t) (t : Fin cfg2.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
/-- Window 10's buffer holds its block at every point, whatever the proof data, if the body leaves the block in place. -/
theorem before10_of {c : Dev nD} (dat : Dat τ (Elt F) Ix ℕ U Lvl cfg2 c) (hA : dat.A 10 = V c (Pipeline.arrRef spec2 10))
    (hafter : ∀ t, dat.after 10 t = blk V c 10 t) (t : Fin cfg2.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)
/-- Window 11's buffer holds its block at every point, whatever the proof data, if the body leaves the block in place. -/
theorem before11_of {c : Dev nD} (dat : Dat τ (Elt F) Ix ℕ U Lvl cfg2 c) (hA : dat.A 11 = V c (Pipeline.arrRef spec2 11))
    (hafter : ∀ t, dat.after 11 t = blk V c 11 t) (t : Fin cfg2.N) (d) : dat.before 11 t d = blk V c 11 t :=
  (dat.before_in_eq_fetched 11 rfl (fun _ => rfl) (fun _ _ _ => rfl) (fun t => by rw [hafter]; unfold Dat.blockOf blk; rw [hA]; try rfl) t d).trans
    (by unfold Dat.fetched Dat.blockOf blk; rw [hA]; try rfl)
/-- Window 12's buffer holds its block at every point, whatever the proof data, if the body leaves the block in place. -/
theorem before12_of {c : Dev nD} (dat : Dat τ (Elt F) Ix ℕ U Lvl cfg2 c) (hA : dat.A 12 = V c (Pipeline.arrRef spec2 12))
    (hafter : ∀ t, dat.after 12 t = blk V c 12 t) (t : Fin cfg2.N) (d) : dat.before 12 t d = blk V c 12 t :=
  (dat.before_in_eq_fetched 12 rfl (fun _ => rfl) (fun _ _ _ => rfl) (fun t => by rw [hafter]; unfold Dat.blockOf blk; rw [hA]; try rfl) t d).trans
    (by unfold Dat.fetched Dat.blockOf blk; rw [hA]; try rfl)
/-- Window 13's buffer holds its block at every point, whatever the proof data, if the body leaves the block in place. -/
theorem before13_of {c : Dev nD} (dat : Dat τ (Elt F) Ix ℕ U Lvl cfg2 c) (hA : dat.A 13 = V c (Pipeline.arrRef spec2 13))
    (hafter : ∀ t, dat.after 13 t = blk V c 13 t) (t : Fin cfg2.N) (d) : dat.before 13 t d = blk V c 13 t :=
  (dat.before_in_eq_fetched 13 rfl (fun _ => rfl) (fun _ _ _ => rfl) (fun t => by rw [hafter]; unfold Dat.blockOf blk; rw [hA]; try rfl) t d).trans
    (by unfold Dat.fetched Dat.blockOf blk; rw [hA]; try rfl)
/-- Window 14's buffer holds its block at every point, whatever the proof data, if the body leaves the block in place. -/
theorem before14_of {c : Dev nD} (dat : Dat τ (Elt F) Ix ℕ U Lvl cfg2 c) (hA : dat.A 14 = V c (Pipeline.arrRef spec2 14))
    (hafter : ∀ t, dat.after 14 t = blk V c 14 t) (t : Fin cfg2.N) (d) : dat.before 14 t d = blk V c 14 t :=
  (dat.before_in_eq_fetched 14 rfl (fun _ => rfl) (fun _ _ _ => rfl) (fun t => by rw [hafter]; unfold Dat.blockOf blk; rw [hA]; try rfl) t d).trans
    (by unfold Dat.fetched Dat.blockOf blk; rw [hA]; try rfl)
/-- Window 15's buffer holds its block at every point, whatever the proof data, if the body leaves the block in place. -/
theorem before15_of {c : Dev nD} (dat : Dat τ (Elt F) Ix ℕ U Lvl cfg2 c) (hA : dat.A 15 = V c (Pipeline.arrRef spec2 15))
    (hafter : ∀ t, dat.after 15 t = blk V c 15 t) (t : Fin cfg2.N) (d) : dat.before 15 t d = blk V c 15 t :=
  (dat.before_in_eq_fetched 15 rfl (fun _ => rfl) (fun _ _ _ => rfl) (fun t => by rw [hafter]; unfold Dat.blockOf blk; rw [hA]; try rfl) t d).trans
    (by unfold Dat.fetched Dat.blockOf blk; rw [hA]; try rfl)
/-- Window 16's buffer holds its block at every point, whatever the proof data, if the body leaves the block in place. -/
theorem before16_of {c : Dev nD} (dat : Dat τ (Elt F) Ix ℕ U Lvl cfg2 c) (hA : dat.A 16 = V c (Pipeline.arrRef spec2 16))
    (hafter : ∀ t, dat.after 16 t = blk V c 16 t) (t : Fin cfg2.N) (d) : dat.before 16 t d = blk V c 16 t :=
  (dat.before_in_eq_fetched 16 rfl (fun _ => rfl) (fun _ _ _ => rfl) (fun t => by rw [hafter]; unfold Dat.blockOf blk; rw [hA]; try rfl) t d).trans
    (by unfold Dat.fetched Dat.blockOf blk; rw [hA]; try rfl)
/-- Window 0's staging buffer at point `t`, and that it is a whole buffer. -/
abbrev st0 (t : Fin cfg2.N) : Memref sig .tc .vmem S1000x10000 .fp8e4m3 := win2_0.stage (cfg2.slots t 0)
theorem st0_whole (t : Fin cfg2.N) : (st0 t).IsWhole := hstage2_0 ((cfg2.slots t 0).cast nbuf2_0)
/-- Window 1's staging buffer at point `t`, and that it is a whole buffer. -/
abbrev st1 (t : Fin cfg2.N) : Memref sig .tc .vmem S1000x1 .f32 := win2_1.stage (cfg2.slots t 1)
theorem st1_whole (t : Fin cfg2.N) : (st1 t).IsWhole := hstage2_1 ((cfg2.slots t 1).cast nbuf2_1)
/-- Window 2's staging buffer at point `t`, and that it is a whole buffer. -/
abbrev st2 (t : Fin cfg2.N) : Memref sig .tc .vmem S10000x64 .f32 := win2_2.stage (cfg2.slots t 2)
theorem st2_whole (t : Fin cfg2.N) : (st2 t).IsWhole := hstage2_2 ((cfg2.slots t 2).cast nbuf2_2)
/-- Window 3's staging buffer at point `t`, and that it is a whole buffer. -/
abbrev st3 (t : Fin cfg2.N) : Memref sig .tc .vmem S1000x64 .f32 := win2_3.stage (cfg2.slots t 3)
theorem st3_whole (t : Fin cfg2.N) : (st3 t).IsWhole := hstage2_3 ((cfg2.slots t 3).cast nbuf2_3)
/-- Window 4's staging buffer at point `t`, and that it is a whole buffer. -/
abbrev st4 (t : Fin cfg2.N) : Memref sig .tc .vmem S1x64 .f32 := win2_4.stage (cfg2.slots t 4)
theorem st4_whole (t : Fin cfg2.N) : (st4 t).IsWhole := hstage2_4 ((cfg2.slots t 4).cast nbuf2_4)
/-- Window 5's staging buffer at point `t`, and that it is a whole buffer. -/
abbrev st5 (t : Fin cfg2.N) : Memref sig .tc .vmem S64x64 .f32 := win2_5.stage (cfg2.slots t 5)
theorem st5_whole (t : Fin cfg2.N) : (st5 t).IsWhole := hstage2_5 ((cfg2.slots t 5).cast nbuf2_5)
/-- Window 6's staging buffer at point `t`, and that it is a whole buffer. -/
abbrev st6 (t : Fin cfg2.N) : Memref sig .tc .vmem S1x64 .f32 := win2_6.stage (cfg2.slots t 6)
theorem st6_whole (t : Fin cfg2.N) : (st6 t).IsWhole := hstage2_6 ((cfg2.slots t 6).cast nbuf2_6)
/-- Window 7's staging buffer at point `t`, and that it is a whole buffer. -/
abbrev st7 (t : Fin cfg2.N) : Memref sig .tc .vmem S64x64 .f32 := win2_7.stage (cfg2.slots t 7)
theorem st7_whole (t : Fin cfg2.N) : (st7 t).IsWhole := hstage2_7 ((cfg2.slots t 7).cast nbuf2_7)
/-- Window 8's staging buffer at point `t`, and that it is a whole buffer. -/
abbrev st8 (t : Fin cfg2.N) : Memref sig .tc .vmem S1x64 .f32 := win2_8.stage (cfg2.slots t 8)
theorem st8_whole (t : Fin cfg2.N) : (st8 t).IsWhole := hstage2_8 ((cfg2.slots t 8).cast nbuf2_8)
/-- Window 9's staging buffer at point `t`, and that it is a whole buffer. -/
abbrev st9 (t : Fin cfg2.N) : Memref sig .tc .vmem S64x64 .f32 := win2_9.stage (cfg2.slots t 9)
theorem st9_whole (t : Fin cfg2.N) : (st9 t).IsWhole := hstage2_9 ((cfg2.slots t 9).cast nbuf2_9)
/-- Window 10's staging buffer at point `t`, and that it is a whole buffer. -/
abbrev st10 (t : Fin cfg2.N) : Memref sig .tc .vmem S1x64 .f32 := win2_10.stage (cfg2.slots t 10)
theorem st10_whole (t : Fin cfg2.N) : (st10 t).IsWhole := hstage2_10 ((cfg2.slots t 10).cast nbuf2_10)
/-- Window 11's staging buffer at point `t`, and that it is a whole buffer. -/
abbrev st11 (t : Fin cfg2.N) : Memref sig .tc .vmem S192x256 .f32 := win2_11.stage (cfg2.slots t 11)
theorem st11_whole (t : Fin cfg2.N) : (st11 t).IsWhole := hstage2_11 ((cfg2.slots t 11).cast nbuf2_11)
/-- Window 12's staging buffer at point `t`, and that it is a whole buffer. -/
abbrev st12 (t : Fin cfg2.N) : Memref sig .tc .vmem S1x256 .f32 := win2_12.stage (cfg2.slots t 12)
theorem st12_whole (t : Fin cfg2.N) : (st12 t).IsWhole := hstage2_12 ((cfg2.slots t 12).cast nbuf2_12)
/-- Window 13's staging buffer at point `t`, and that it is a whole buffer. -/
abbrev st13 (t : Fin cfg2.N) : Memref sig .tc .vmem S256x64 .f32 := win2_13.stage (cfg2.slots t 13)
theorem st13_whole (t : Fin cfg2.N) : (st13 t).IsWhole := hstage2_13 ((cfg2.slots t 13).cast nbuf2_13)
/-- Window 14's staging buffer at point `t`, and that it is a whole buffer. -/
abbrev st14 (t : Fin cfg2.N) : Memref sig .tc .vmem S1x64 .f32 := win2_14.stage (cfg2.slots t 14)
theorem st14_whole (t : Fin cfg2.N) : (st14 t).IsWhole := hstage2_14 ((cfg2.slots t 14).cast nbuf2_14)
/-- Window 15's staging buffer at point `t`, and that it is a whole buffer. -/
abbrev st15 (t : Fin cfg2.N) : Memref sig .tc .vmem S64x13 .f32 := win2_15.stage (cfg2.slots t 15)
theorem st15_whole (t : Fin cfg2.N) : (st15 t).IsWhole := hstage2_15 ((cfg2.slots t 15).cast nbuf2_15)
/-- Window 16's staging buffer at point `t`, and that it is a whole buffer. -/
abbrev st16 (t : Fin cfg2.N) : Memref sig .tc .vmem S1x13 .f32 := win2_16.stage (cfg2.slots t 16)
theorem st16_whole (t : Fin cfg2.N) : (st16 t).IsWhole := hstage2_16 ((cfg2.slots t 16).cast nbuf2_16)
/-- Window 17's staging buffer at point `t`, and that it is a whole buffer. -/
abbrev st17 (t : Fin cfg2.N) : Memref sig .tc .vmem S1000x13 .f32 := win2_17.stage (cfg2.slots t 17)
theorem st17_whole (t : Fin cfg2.N) : (st17 t).IsWhole := hstage2_17 ((cfg2.slots t 17).cast nbuf2_17)
/-- Window 18's staging buffer at point `t`, and that it is a whole buffer. -/
abbrev st18 (t : Fin cfg2.N) : Memref sig .tc .vmem S1000x256 .f32 := win2_18.stage (cfg2.slots t 18)
theorem st18_whole (t : Fin cfg2.N) : (st18 t).IsWhole := hstage2_18 ((cfg2.slots t 18).cast nbuf2_18)

/-- The proof data of the call on core `c`: the arrays as the call finds them; after the body at point `t` each input's buffer at its block and,
where the point writes them, the results' at theirs. -/
def dat (c : Dev nD) : Dat τ (Elt F) Ix ℕ U Lvl cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => blk V c 13 t
    | ⟨14, _⟩ => blk V c 14 t
    | ⟨15, _⟩ => blk V c 15 t
    | ⟨16, _⟩ => blk V c 16 t
    | ⟨17, _⟩ => out (ins V c) (ix t)
    | ⟨18, _⟩ => fus (ins V c) (ix t)
    | ⟨_ + 19, h⟩ => absurd h (Nat.not_lt.2 (Nat.le_add_left _ _))
  Φ n := phi (Ix := Ix) (U := U) (Lvl := Lvl) V c n.val
  q _ := fullShare
  owed _ := D c

variable (ι : Ix)

local notation "𝕕" => dat (Ix := Ix) (U := U) (Lvl := Lvl) V D

theorem dat_A (c : Dev nD) (w : Fin cfg2.W) : (𝕕 c).A w = V c (Pipeline.arrRef spec2 w) := by
  dsimp only [dat]

theorem after0 (c : Dev nD) (t : Fin cfg2.N) : (𝕕 c).after 0 t = blk V c 0 t := by dsimp only [dat]
theorem after1 (c : Dev nD) (t : Fin cfg2.N) : (𝕕 c).after 1 t = blk V c 1 t := by dsimp only [dat]
theorem after2 (c : Dev nD) (t : Fin cfg2.N) : (𝕕 c).after 2 t = blk V c 2 t := by dsimp only [dat]
theorem after3 (c : Dev nD) (t : Fin cfg2.N) : (𝕕 c).after 3 t = blk V c 3 t := by dsimp only [dat]
theorem after4 (c : Dev nD) (t : Fin cfg2.N) : (𝕕 c).after 4 t = blk V c 4 t := by dsimp only [dat]
theorem after5 (c : Dev nD) (t : Fin cfg2.N) : (𝕕 c).after 5 t = blk V c 5 t := by dsimp only [dat]
theorem after6 (c : Dev nD) (t : Fin cfg2.N) : (𝕕 c).after 6 t = blk V c 6 t := by dsimp only [dat]
theorem after7 (c : Dev nD) (t : Fin cfg2.N) : (𝕕 c).after 7 t = blk V c 7 t := by dsimp only [dat]
theorem after8 (c : Dev nD) (t : Fin cfg2.N) : (𝕕 c).after 8 t = blk V c 8 t := by dsimp only [dat]
theorem after9 (c : Dev nD) (t : Fin cfg2.N) : (𝕕 c).after 9 t = blk V c 9 t := by dsimp only [dat]
theorem after10 (c : Dev nD) (t : Fin cfg2.N) : (𝕕 c).after 10 t = blk V c 10 t := by dsimp only [dat]
theorem after11 (c : Dev nD) (t : Fin cfg2.N) : (𝕕 c).after 11 t = blk V c 11 t := by dsimp only [dat]
theorem after12 (c : Dev nD) (t : Fin cfg2.N) : (𝕕 c).after 12 t = blk V c 12 t := by dsimp only [dat]
theorem after13 (c : Dev nD) (t : Fin cfg2.N) : (𝕕 c).after 13 t = blk V c 13 t := by dsimp only [dat]
theorem after14 (c : Dev nD) (t : Fin cfg2.N) : (𝕕 c).after 14 t = blk V c 14 t := by dsimp only [dat]
theorem after15 (c : Dev nD) (t : Fin cfg2.N) : (𝕕 c).after 15 t = blk V c 15 t := by dsimp only [dat]
theorem after16 (c : Dev nD) (t : Fin cfg2.N) : (𝕕 c).after 16 t = blk V c 16 t := by dsimp only [dat]
theorem after17 (c : Dev nD) (t : Fin cfg2.N) : (𝕕 c).after 17 t = out (ins V c) (ix t) := by dsimp only [dat]
theorem after18 (c : Dev nD) (t : Fin cfg2.N) : (𝕕 c).after 18 t = fus (ins V c) (ix t) := by dsimp only [dat]
theorem before0 (c : Dev nD) (t : Fin cfg2.N) (d) : (𝕕 c).before 0 t d = blk V c 0 t :=
  before0_of V (𝕕 c) (dat_A V D c 0) (after0 V D c) t d
theorem before1 (c : Dev nD) (t : Fin cfg2.N) (d) : (𝕕 c).before 1 t d = blk V c 1 t :=
  before1_of V (𝕕 c) (dat_A V D c 1) (after1 V D c) t d
theorem before2 (c : Dev nD) (t : Fin cfg2.N) (d) : (𝕕 c).before 2 t d = blk V c 2 t :=
  before2_of V (𝕕 c) (dat_A V D c 2) (after2 V D c) t d
theorem before3 (c : Dev nD) (t : Fin cfg2.N) (d) : (𝕕 c).before 3 t d = blk V c 3 t :=
  before3_of V (𝕕 c) (dat_A V D c 3) (after3 V D c) t d
theorem before4 (c : Dev nD) (t : Fin cfg2.N) (d) : (𝕕 c).before 4 t d = blk V c 4 t :=
  before4_of V (𝕕 c) (dat_A V D c 4) (after4 V D c) t d
theorem before5 (c : Dev nD) (t : Fin cfg2.N) (d) : (𝕕 c).before 5 t d = blk V c 5 t :=
  before5_of V (𝕕 c) (dat_A V D c 5) (after5 V D c) t d
theorem before6 (c : Dev nD) (t : Fin cfg2.N) (d) : (𝕕 c).before 6 t d = blk V c 6 t :=
  before6_of V (𝕕 c) (dat_A V D c 6) (after6 V D c) t d
theorem before7 (c : Dev nD) (t : Fin cfg2.N) (d) : (𝕕 c).before 7 t d = blk V c 7 t :=
  before7_of V (𝕕 c) (dat_A V D c 7) (after7 V D c) t d
theorem before8 (c : Dev nD) (t : Fin cfg2.N) (d) : (𝕕 c).before 8 t d = blk V c 8 t :=
  before8_of V (𝕕 c) (dat_A V D c 8) (after8 V D c) t d
theorem before9 (c : Dev nD) (t : Fin cfg2.N) (d) : (𝕕 c).before 9 t d = blk V c 9 t :=
  before9_of V (𝕕 c) (dat_A V D c 9) (after9 V D c) t d
theorem before10 (c : Dev nD) (t : Fin cfg2.N) (d) : (𝕕 c).before 10 t d = blk V c 10 t :=
  before10_of V (𝕕 c) (dat_A V D c 10) (after10 V D c) t d
theorem before11 (c : Dev nD) (t : Fin cfg2.N) (d) : (𝕕 c).before 11 t d = blk V c 11 t :=
  before11_of V (𝕕 c) (dat_A V D c 11) (after11 V D c) t d
theorem before12 (c : Dev nD) (t : Fin cfg2.N) (d) : (𝕕 c).before 12 t d = blk V c 12 t :=
  before12_of V (𝕕 c) (dat_A V D c 12) (after12 V D c) t d
theorem before13 (c : Dev nD) (t : Fin cfg2.N) (d) : (𝕕 c).before 13 t d = blk V c 13 t :=
  before13_of V (𝕕 c) (dat_A V D c 13) (after13 V D c) t d
theorem before14 (c : Dev nD) (t : Fin cfg2.N) (d) : (𝕕 c).before 14 t d = blk V c 14 t :=
  before14_of V (𝕕 c) (dat_A V D c 14) (after14 V D c) t d
theorem before15 (c : Dev nD) (t : Fin cfg2.N) (d) : (𝕕 c).before 15 t d = blk V c 15 t :=
  before15_of V (𝕕 c) (dat_A V D c 15) (after15 V D c) t d
theorem before16 (c : Dev nD) (t : Fin cfg2.N) (d) : (𝕕 c).before 16 t d = blk V c 16 t :=
  before16_of V (𝕕 c) (dat_A V D c 16) (after16 V D c) t d

/-- What the body leaves in window 17's buffer: what it found before the last phase, the result's block in it. -/
def left17 (c : Dev nD) (t : Fin cfg2.N) : sProp 𝕄 :=
  match cfg2.idle 17 (cfg2.grid.coords t) with
  | true =>
    match (cfg2.win 17).flush t with
    | false => iprop(∃ d, owns (c : Thread nD τ) ((cfg2.win 17).stage (cfg2.slots t 17)) fullShare ((𝕕 c).before 17 t d))
    | true => owns (c : Thread nD τ) ((cfg2.win 17).stage (cfg2.slots t 17)) fullShare ((𝕕 c).after 17 t)
  | false => owns (c : Thread nD τ) ((cfg2.win 17).stage (cfg2.slots t 17)) fullShare ((𝕕 c).after 17 t)
theorem left17_idle (c : Dev nD) (t : Fin cfg2.N) (h : t.val < 30) :
    left17 (U := U) (Lvl := Lvl) V D c t = iprop(∃ d, owns (c : Thread nD τ) (st17 t) fullShare ((𝕕 c).before 17 t d)) := by
  unfold left17
  rw [idle17, flush17, decide_eq_true h, decide_eq_false (show ¬ (30 ≤ t.val) by omega)]
theorem left17_live (c : Dev nD) (t : Fin cfg2.N) (h : 30 ≤ t.val) :
    left17 (U := U) (Lvl := Lvl) V D c t = owns (c : Thread nD τ) (st17 t) fullShare (out (ins V c) (ix t)) := by
  unfold left17
  rw [idle17, decide_eq_false (show ¬ (t.val < 30) by omega), after17]

/-- What the body leaves in window 18's buffer: what it found before the last phase, the result's block in it. -/
def left18 (c : Dev nD) (t : Fin cfg2.N) : sProp 𝕄 :=
  match cfg2.idle 18 (cfg2.grid.coords t) with
  | true =>
    match (cfg2.win 18).flush t with
    | false => iprop(∃ d, owns (c : Thread nD τ) ((cfg2.win 18).stage (cfg2.slots t 18)) fullShare ((𝕕 c).before 18 t d))
    | true => owns (c : Thread nD τ) ((cfg2.win 18).stage (cfg2.slots t 18)) fullShare ((𝕕 c).after 18 t)
  | false => owns (c : Thread nD τ) ((cfg2.win 18).stage (cfg2.slots t 18)) fullShare ((𝕕 c).after 18 t)
theorem left18_idle (c : Dev nD) (t : Fin cfg2.N) (h : t.val < 30) :
    left18 (U := U) (Lvl := Lvl) V D c t = iprop(∃ d, owns (c : Thread nD τ) (st18 t) fullShare ((𝕕 c).before 18 t d)) := by
  unfold left18
  rw [idle18, flush18, decide_eq_true h, decide_eq_false (show ¬ (30 ≤ t.val) by omega)]
theorem left18_live (c : Dev nD) (t : Fin cfg2.N) (h : 30 ≤ t.val) :
    left18 (U := U) (Lvl := Lvl) V D c t = owns (c : Thread nD τ) (st18 t) fullShare (fus (ins V c) (ix t)) := by
  unfold left18
  rw [idle18, decide_eq_false (show ¬ (t.val < 30) by omega), after18]

/-- What the body is called with at point `t`, -/
def bodyPre (c : Dev nD) (t : Fin cfg2.N) : sProp 𝕄 :=
  iprop((𝕕 c).Φ t.castSucc ∗ (𝕕 c).owesAt ι t.castSucc
    ∗ (∃ d, owns (c : Thread nD τ) (st0 t) fullShare ((𝕕 c).before 0 t d))
    ∗ (∃ d, owns (c : Thread nD τ) (st1 t) fullShare ((𝕕 c).before 1 t d))
    ∗ (∃ d, owns (c : Thread nD τ) (st2 t) fullShare ((𝕕 c).before 2 t d))
    ∗ (∃ d, owns (c : Thread nD τ) (st3 t) fullShare ((𝕕 c).before 3 t d))
    ∗ (∃ d, owns (c : Thread nD τ) (st4 t) fullShare ((𝕕 c).before 4 t d))
    ∗ (∃ d, owns (c : Thread nD τ) (st5 t) fullShare ((𝕕 c).before 5 t d))
    ∗ (∃ d, owns (c : Thread nD τ) (st6 t) fullShare ((𝕕 c).before 6 t d))
    ∗ (∃ d, owns (c : Thread nD τ) (st7 t) fullShare ((𝕕 c).before 7 t d))
    ∗ (∃ d, owns (c : Thread nD τ) (st8 t) fullShare ((𝕕 c).before 8 t d))
    ∗ (∃ d, owns (c : Thread nD τ) (st9 t) fullShare ((𝕕 c).before 9 t d))
    ∗ (∃ d, owns (c : Thread nD τ) (st10 t) fullShare ((𝕕 c).before 10 t d))
    ∗ (∃ d, owns (c : Thread nD τ) (st11 t) fullShare ((𝕕 c).before 11 t d))
    ∗ (∃ d, owns (c : Thread nD τ) (st12 t) fullShare ((𝕕 c).before 12 t d))
    ∗ (∃ d, owns (c : Thread nD τ) (st13 t) fullShare ((𝕕 c).before 13 t d))
    ∗ (∃ d, owns (c : Thread nD τ) (st14 t) fullShare ((𝕕 c).before 14 t d))
    ∗ (∃ d, owns (c : Thread nD τ) (st15 t) fullShare ((𝕕 c).before 15 t d))
    ∗ (∃ d, owns (c : Thread nD τ) (st16 t) fullShare ((𝕕 c).before 16 t d))
    ∗ (∃ d, owns (c : Thread nD τ) (st17 t) fullShare ((𝕕 c).before 17 t d))
    ∗ (∃ d, owns (c : Thread nD τ) (st18 t) fullShare ((𝕕 c).before 18 t d)))

/-- and what it returns. -/
def bodyPost (c : Dev nD) (t : Fin cfg2.N) : sProp 𝕄 :=
  iprop((𝕕 c).Φ t.succ ∗ (𝕕 c).owesAt ι t.succ
    ∗ owns (c : Thread nD τ) (st0 t) fullShare ((𝕕 c).after 0 t)
    ∗ owns (c : Thread nD τ) (st1 t) fullShare ((𝕕 c).after 1 t)
    ∗ owns (c : Thread nD τ) (st2 t) fullShare ((𝕕 c).after 2 t)
    ∗ owns (c : Thread nD τ) (st3 t) fullShare ((𝕕 c).after 3 t)
    ∗ owns (c : Thread nD τ) (st4 t) fullShare ((𝕕 c).after 4 t)
    ∗ owns (c : Thread nD τ) (st5 t) fullShare ((𝕕 c).after 5 t)
    ∗ owns (c : Thread nD τ) (st6 t) fullShare ((𝕕 c).after 6 t)
    ∗ owns (c : Thread nD τ) (st7 t) fullShare ((𝕕 c).after 7 t)
    ∗ owns (c : Thread nD τ) (st8 t) fullShare ((𝕕 c).after 8 t)
    ∗ owns (c : Thread nD τ) (st9 t) fullShare ((𝕕 c).after 9 t)
    ∗ owns (c : Thread nD τ) (st10 t) fullShare ((𝕕 c).after 10 t)
    ∗ owns (c : Thread nD τ) (st11 t) fullShare ((𝕕 c).after 11 t)
    ∗ owns (c : Thread nD τ) (st12 t) fullShare ((𝕕 c).after 12 t)
    ∗ owns (c : Thread nD τ) (st13 t) fullShare ((𝕕 c).after 13 t)
    ∗ owns (c : Thread nD τ) (st14 t) fullShare ((𝕕 c).after 14 t)
    ∗ owns (c : Thread nD τ) (st15 t) fullShare ((𝕕 c).after 15 t)
    ∗ owns (c : Thread nD τ) (st16 t) fullShare ((𝕕 c).after 16 t)
    ∗ left17 (U := U) (Lvl := Lvl) V D c t ∗ left18 (U := U) (Lvl := Lvl) V D c t)

end Cert.KernelIdeal.Main

end
-- ==== Proof.KernelIdeal.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow

public import proofs.«01_k».proof.Proof.KernelIdeal.Conds

/-! The last call's body, run once for each of its eight cases: the phase (0 to 3), and whether the point is the phase's first.
A theorem names only the buffers its case touches. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

set_option maxHeartbeats 4000000 in
/-- Phase 0, the first point. -/
theorem run0_first (𝒱₀ : Variants) (c : Dev nD) (i : grid2.Coords) (hk : (i 0).val = 0) (hi : (i 1).val = 0)
    (arg2 : Memref sig .tc .vmem S1000x10000 .fp8e4m3) (harg2 : arg2.IsWhole) (arg3 : Memref sig .tc .vmem S1000x1 .f32) (harg3 : arg3.IsWhole) (arg4 : Memref sig .tc .vmem S10000x64 .f32) (harg4 : arg4.IsWhole) (arg5 : Memref sig .tc .vmem S1000x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S192x256 .f32) (harg13 : arg13.IsWhole) (arg14 : Memref sig .tc .vmem S1x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x13 .f32) (harg17 : arg17.IsWhole) (arg18 : Memref sig .tc .vmem S1x13 .f32) (harg18 : arg18.IsWhole) (arg19 : Memref sig .tc .vmem S1000x13 .f32) (harg19 : arg19.IsWhole) (arg20 : Memref sig .tc .vmem S1000x256 .f32) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .fp8e4m3) (harg23 : arg23.IsWhole) (arg24 : Memref sig .tc .vmem S1x64 .f32) (harg24 : arg24.IsWhole) (arg25 : Memref sig .tc .vmem S10000x64 .f32) (harg25 : arg25.IsWhole) (arg26 : Memref sig .tc .vmem S1000x10000 .fp8e4m3) (harg26 : arg26.IsWhole) (arg27 : Memref sig .tc .vmem S1000x64 .f32) (harg27 : arg27.IsWhole)
    (x2 : Vec F S1000x10000 .fp8e4m3) (x3 : Vec F S1000x1 .f32) (x4 : Vec F S10000x64 .f32) (x6 : Vec F S1x64 .f32) (x7 : Vec F S64x64 .f32) (x21 : Vec F S10000x64 .f32) (x23 : Vec F S10000x64 .fp8e4m3) (x24 : Vec F S1x64 .f32) (x26 : Vec F S1000x10000 .fp8e4m3) (x27 : Vec F S1000x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg21 fullShare x21 ∗ owns (c : Thread nD τ) arg23 fullShare x23 ∗ owns (c : Thread nD τ) arg24 fullShare x24 ∗ owns (c : Thread nD τ) arg26 fullShare x26 ∗ owns (c : Thread nD τ) arg27 fullShare x27
        ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg21 fullShare (VecWindow.put x21 ![1000 * (i 1).val, 0] S1000x64.size (k2_pay3 (k2_pay11 x3) (k2_pay15 x4) (k2_pay1 x2 (k2_pay16 x4)) x6 x7)) ∗ owns (c : Thread nD τ) arg23 fullShare (k2_pay16 x4) ∗ owns (c : Thread nD τ) arg24 fullShare (k2_pay15 x4) ∗ owns (c : Thread nD τ) arg26 fullShare (k2_pay12 x2) ∗ owns (c : Thread nD τ) arg27 fullShare (k2_pay1 x2 (k2_pay16 x4))) -∗ K ⟨⟩))
      ⊢ wp frame (wpE (defs₀ (F := F)) 𝒱₀ c none) E (cc2__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h1 : (k2_cond1 i = 1#1) := by rw [cond1_iff]; omega
  have h2 : first 0#32 i := by rw [first0_iff]; omega
  have h3 : ¬ first 1#32 i := by rw [first1_iff]; omega
  have h4 : ¬ first 2#32 i := by rw [first2_iff]; omega
  have h5 : ¬ first 3#32 i := by rw [first3_iff]; omega
  have h6 : handed i := by rw [handed_iff]; omega
  have h7 : ¬ (k2_cond7 i = 1#1) := by rw [cond7_iff]; omega
  have h8 : (k2_cond8 i = 1#1) := by rw [cond8_iff]; omega
  have h9 : ¬ (k2_cond9 i = 1#1) := by rw [cond9_iff]; omega
  have h10 : ¬ (k2_cond10 i = 1#1) := by rw [cond10_iff]; omega
  have h11 : ¬ (k2_cond11 i = 1#1) := by rw [cond11_iff]; omega
  simp only [cc2__main_body_eq_skeleton]; unfold cc2__main_body_skel
  simp only [k2_part1_eq_skeleton, k2_part2_eq_skeleton]; unfold k2_part2_skel
  unfold owns
  iintro ⟨⟨%f2, %hf2, H2⟩, ⟨%f3, %hf3, H3⟩, ⟨%f4, %hf4, H4⟩, ⟨%f6, %hf6, H6⟩, ⟨%f7, %hf7, H7⟩, ⟨%f21, %hf21, H21⟩, ⟨%f23, %hf23, H23⟩, ⟨%f24, %hf24, H24⟩, ⟨%f26, %hf26, H26⟩, ⟨%f27, %hf27, H27⟩, Hk⟩
  obtain rfl := harg2.eq_unread hf2
  obtain rfl := harg3.eq_unread hf3
  obtain rfl := harg4.eq_unread hf4
  obtain rfl := harg6.eq_unread hf6
  obtain rfl := harg7.eq_unread hf7
  obtain rfl := harg21.eq_unread hf21
  obtain rfl := harg23.eq_unread hf23
  obtain rfl := harg24.eq_unread hf24
  obtain rfl := harg26.eq_unread hf26
  obtain rfl := harg27.eq_unread hf27
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr
    swap; · iexact H2
    ipureintro
    exact harg2.read_unread _
  isplitl [H3]
  · iexists _; isplitr
    swap; · iexact H3
    ipureintro
    exact harg3.read_unread _
  isplitl [H4]
  · iexists _; isplitr
    swap; · iexact H4
    ipureintro
    exact harg4.read_unread _
  isplitl [H6]
  · iexists _; isplitr
    swap; · iexact H6
    ipureintro
    exact harg6.read_unread _
  isplitl [H7]
  · iexists _; isplitr
    swap; · iexact H7
    ipureintro
    exact harg7.read_unread _
  isplitl [H21]
  · iexists _; isplitr
    swap; · iexact H21
    ipureintro
    sl_unfold_run_names
    rw [View.read_writes_cons_put _ _ _ _ _ (k2_off3_eq i), View.writes_nil]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H23]
  · iexists _; isplitr
    swap; · iexact H23
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H24]
  · iexists _; isplitr
    swap; · iexact H24
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H26]
  · iexists _; isplitr
    swap; · iexact H26
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  · iexists _; isplitr
    swap; · iexact H27
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]

set_option maxHeartbeats 4000000 in
/-- Phase 0, a later point. -/
theorem run0_later (𝒱₀ : Variants) (c : Dev nD) (i : grid2.Coords) (hk : (i 0).val = 0) (hi : (i 1).val ≠ 0)
    (arg2 : Memref sig .tc .vmem S1000x10000 .fp8e4m3) (harg2 : arg2.IsWhole) (arg3 : Memref sig .tc .vmem S1000x1 .f32) (harg3 : arg3.IsWhole) (arg4 : Memref sig .tc .vmem S10000x64 .f32) (harg4 : arg4.IsWhole) (arg5 : Memref sig .tc .vmem S1000x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S192x256 .f32) (harg13 : arg13.IsWhole) (arg14 : Memref sig .tc .vmem S1x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x13 .f32) (harg17 : arg17.IsWhole) (arg18 : Memref sig .tc .vmem S1x13 .f32) (harg18 : arg18.IsWhole) (arg19 : Memref sig .tc .vmem S1000x13 .f32) (harg19 : arg19.IsWhole) (arg20 : Memref sig .tc .vmem S1000x256 .f32) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .fp8e4m3) (harg23 : arg23.IsWhole) (arg24 : Memref sig .tc .vmem S1x64 .f32) (harg24 : arg24.IsWhole) (arg25 : Memref sig .tc .vmem S10000x64 .f32) (harg25 : arg25.IsWhole) (arg26 : Memref sig .tc .vmem S1000x10000 .fp8e4m3) (harg26 : arg26.IsWhole) (arg27 : Memref sig .tc .vmem S1000x64 .f32) (harg27 : arg27.IsWhole)
    (x2 : Vec F S1000x10000 .fp8e4m3) (x3 : Vec F S1000x1 .f32) (x6 : Vec F S1x64 .f32) (x7 : Vec F S64x64 .f32) (x21 : Vec F S10000x64 .f32) (x23 : Vec F S10000x64 .fp8e4m3) (x24 : Vec F S1x64 .f32) (x27 : Vec F S1000x64 .f32) (E : Set ℕ) (K : PUnit → sProp 𝕄) :
    iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg21 fullShare x21 ∗ owns (c : Thread nD τ) arg23 fullShare x23 ∗ owns (c : Thread nD τ) arg24 fullShare x24 ∗ owns (c : Thread nD τ) arg27 fullShare x27
        ∗ (iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg21 fullShare (VecWindow.put x21 ![1000 * (i 1).val, 0] S1000x64.size (k2_pay3 (k2_pay11 x3) x24 (k2_pay1 x2 x23) x6 x7)) ∗ owns (c : Thread nD τ) arg23 fullShare x23 ∗ owns (c : Thread nD τ) arg24 fullShare x24 ∗ owns (c : Thread nD τ) arg27 fullShare (k2_pay1 x2 x23)) -∗ K ⟨⟩))
      ⊢ wp frame (wpE (defs₀ (F := F)) 𝒱₀ c none) E (cc2__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h1 : ¬ (k2_cond1 i = 1#1) := by rw [cond1_iff]; omega
  have h2 : ¬ first 0#32 i := by rw [first0_iff]; omega
  have h3 : ¬ first 1#32 i := by rw [first1_iff]; omega
  have h4 : ¬ first 2#32 i := by rw [first2_iff]; omega
  have h5 : ¬ first 3#32 i := by rw [first3_iff]; omega
  have h6 : handed i := by rw [handed_iff]; omega
  have h7 : ¬ (k2_cond7 i = 1#1) := by rw [cond7_iff]; omega
  have h8 : (k2_cond8 i = 1#1) := by rw [cond8_iff]; omega
  have h9 : ¬ (k2_cond9 i = 1#1) := by rw [cond9_iff]; omega
  have h10 : ¬ (k2_cond10 i = 1#1) := by rw [cond10_iff]; omega
  have h11 : ¬ (k2_cond11 i = 1#1) := by rw [cond11_iff]; omega
  simp only [cc2__main_body_eq_skeleton]; unfold cc2__main_body_skel
  simp only [k2_part1_eq_skeleton, k2_part2_eq_skeleton]; unfold k2_part2_skel
  unfold owns
  iintro ⟨⟨%f2, %hf2, H2⟩, ⟨%f3, %hf3, H3⟩, ⟨%f6, %hf6, H6⟩, ⟨%f7, %hf7, H7⟩, ⟨%f21, %hf21, H21⟩, ⟨%f23, %hf23, H23⟩, ⟨%f24, %hf24, H24⟩, ⟨%f27, %hf27, H27⟩, Hk⟩
  obtain rfl := harg2.eq_unread hf2
  obtain rfl := harg3.eq_unread hf3
  obtain rfl := harg6.eq_unread hf6
  obtain rfl := harg7.eq_unread hf7
  obtain rfl := harg21.eq_unread hf21
  obtain rfl := harg23.eq_unread hf23
  obtain rfl := harg24.eq_unread hf24
  obtain rfl := harg27.eq_unread hf27
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr
    swap; · iexact H2
    ipureintro
    exact harg2.read_unread _
  isplitl [H3]
  · iexists _; isplitr
    swap; · iexact H3
    ipureintro
    exact harg3.read_unread _
  isplitl [H6]
  · iexists _; isplitr
    swap; · iexact H6
    ipureintro
    exact harg6.read_unread _
  isplitl [H7]
  · iexists _; isplitr
    swap; · iexact H7
    ipureintro
    exact harg7.read_unread _
  isplitl [H21]
  · iexists _; isplitr
    swap; · iexact H21
    ipureintro
    sl_unfold_run_names
    rw [View.read_writes_cons_put _ _ _ _ _ (k2_off3_eq i), View.writes_nil]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H23]
  · iexists _; isplitr
    swap; · iexact H23
    ipureintro
    exact harg23.read_unread _
  isplitl [H24]
  · iexists _; isplitr
    swap; · iexact H24
    ipureintro
    exact harg24.read_unread _
  · iexists _; isplitr
    swap; · iexact H27
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]

end Cert.KernelIdeal.Main

end
-- ==== Proof.KernelIdeal.Sound0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.Dat2
public import proofs.«01_k».proof.Proof.KernelIdeal.Body0

/-! The last call's body at the points of phase 0: the run applies, and moves what the scratch buffers hold on. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

open Cert.Rows

variable (ι : Ix)

local notation "𝕕" => dat (Ix := Ix) (U := U) (Lvl := Lvl) V D

set_option maxHeartbeats 2000000 in
/-- The body at the first point of phase 0. -/
theorem sound0_first (c : Dev nD) (t : Fin cfg2.N) (ht : t.val = 0) :
    bodyPre (U := U) (Lvl := Lvl) V D ι c t ⊢ wp frame (wpE (defs₀ (F := F)) 𝒱₀ c none) Set.univ (bodyAt2 t) (fun _ => bodyPost (U := U) (Lvl := Lvl) V D ι c t) := by
  have e0 := at0 t
  have e1 := at1 t
  have hk : (grid2.coords t 0).val = 0 := by omega
  have hi : (grid2.coords t 1).val = 0 := by omega
  unfold bodyPre bodyPost bodyAt2
  simp only [before0, before1, before2, before3, before4, before5, before6, before7, before8, before9, before10, before11, before12, before13, before14, before15, before16]
  rw [show (𝕕 c).Φ t.castSucc = phi (Ix := Ix) (U := U) (Lvl := Lvl) V c t.val from rfl,
    show (𝕕 c).Φ t.succ = phi (Ix := Ix) (U := U) (Lvl := Lvl) V c (t.val + 1) from rfl,
    show (𝕕 c).owesAt ι t.succ = (𝕕 c).owesAt ι t.castSucc from rfl,
    after0, after1, after2, after3, after4, after5, after6, after7, after8, after9, after10, after11, after12, after13, after14, after15, after16, left17_idle V D c t (by omega), left18_idle V D c t (by omega)]
  unfold phi
  iintro ⟨⟨%S, %hS, H21, H22, H23, H24, H25, H26, H27, Hoth, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩⟩
  iapply (run0_first (Ix := Ix) (U := U) (Lvl := Lvl) 𝒱₀ c (grid2.coords t) hk hi (st0 t) (st0_whole t) (st1 t) (st1_whole t) (st2 t) (st2_whole t) (st3 t) (st3_whole t) (st4 t) (st4_whole t) (st5 t) (st5_whole t) (st6 t) (st6_whole t) (st7 t) (st7_whole t) (st8 t) (st8_whole t) (st9 t) (st9_whole t) (st10 t) (st10_whole t) (st11 t) (st11_whole t) (st12 t) (st12_whole t) (st13 t) (st13_whole t) (st14 t) (st14_whole t) (st15 t) (st15_whole t) (st16 t) (st16_whole t) (st17 t) (st17_whole t) (st18 t) (st18_whole t) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (blk V c 0 t) (blk V c 1 t) (blk V c 2 t) (blk V c 4 t) (blk V c 5 t) S.a S.q S.m S.r S.acc Set.univ _)
  isplitl [H2]; · iexact H2
  isplitl [H3]; · iexact H3
  isplitl [H4]; · iexact H4
  isplitl [H6]; · iexact H6
  isplitl [H7]; · iexact H7
  isplitl [H21]; · iexact H21
  isplitl [H23]; · iexact H23
  isplitl [H24]; · iexact H24
  isplitl [H26]; · iexact H26
  isplitl [H27]; · iexact H27
  iintro ⟨H2, H3, H4, H6, H7, H21, H23, H24, H26, H27⟩
  isplitl [H21 H22 H23 H24 H25 H26 H27 Hoth Hg]
  · iexists (St.mk (VecWindow.put S.a ![1000 * (grid2.coords t 1).val, 0] S1000x64.size (k2_pay3 (k2_pay11 (blk V c 1 t)) (k2_pay15 (blk V c 2 t)) (k2_pay1 (blk V c 0 t) (k2_pay16 (blk V c 2 t))) (blk V c 4 t) (blk V c 5 t))) S.b (k2_pay16 (blk V c 2 t)) (k2_pay15 (blk V c 2 t)) S.f (k2_pay12 (blk V c 0 t)) (k2_pay1 (blk V c 0 t) (k2_pay16 (blk V c 2 t))))
    isplitr
    swap
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [Hoth]; · iexact Hoth
      iexact Hg
    ipureintro
    rw [blk0 V c t (by omega), blk1, blk2, blk4, blk5]
    exact hS.first0 ht (ix t) rfl e1 _
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists d17; iexact H19
  iexists d18; iexact H20

set_option maxHeartbeats 2000000 in
/-- The body at a later point of phase 0. -/
theorem sound0_later (c : Dev nD) (t : Fin cfg2.N) (ht : 0 < t.val ∧ t.val < 10) :
    bodyPre (U := U) (Lvl := Lvl) V D ι c t ⊢ wp frame (wpE (defs₀ (F := F)) 𝒱₀ c none) Set.univ (bodyAt2 t) (fun _ => bodyPost (U := U) (Lvl := Lvl) V D ι c t) := by
  have e0 := at0 t
  have e1 := at1 t
  have hk : (grid2.coords t 0).val = 0 := by omega
  have hi : (grid2.coords t 1).val ≠ 0 := by omega
  unfold bodyPre bodyPost bodyAt2
  simp only [before0, before1, before2, before3, before4, before5, before6, before7, before8, before9, before10, before11, before12, before13, before14, before15, before16]
  rw [show (𝕕 c).Φ t.castSucc = phi (Ix := Ix) (U := U) (Lvl := Lvl) V c t.val from rfl,
    show (𝕕 c).Φ t.succ = phi (Ix := Ix) (U := U) (Lvl := Lvl) V c (t.val + 1) from rfl,
    show (𝕕 c).owesAt ι t.succ = (𝕕 c).owesAt ι t.castSucc from rfl,
    after0, after1, after2, after3, after4, after5, after6, after7, after8, after9, after10, after11, after12, after13, after14, after15, after16, left17_idle V D c t (by omega), left18_idle V D c t (by omega)]
  unfold phi
  iintro ⟨⟨%S, %hS, H21, H22, H23, H24, H25, H26, H27, Hoth, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩⟩
  iapply (run0_later (Ix := Ix) (U := U) (Lvl := Lvl) 𝒱₀ c (grid2.coords t) hk hi (st0 t) (st0_whole t) (st1 t) (st1_whole t) (st2 t) (st2_whole t) (st3 t) (st3_whole t) (st4 t) (st4_whole t) (st5 t) (st5_whole t) (st6 t) (st6_whole t) (st7 t) (st7_whole t) (st8 t) (st8_whole t) (st9 t) (st9_whole t) (st10 t) (st10_whole t) (st11 t) (st11_whole t) (st12 t) (st12_whole t) (st13 t) (st13_whole t) (st14 t) (st14_whole t) (st15 t) (st15_whole t) (st16 t) (st16_whole t) (st17 t) (st17_whole t) (st18 t) (st18_whole t) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (blk V c 0 t) (blk V c 1 t) (blk V c 4 t) (blk V c 5 t) S.a S.q S.m S.acc Set.univ _)
  isplitl [H2]; · iexact H2
  isplitl [H3]; · iexact H3
  isplitl [H6]; · iexact H6
  isplitl [H7]; · iexact H7
  isplitl [H21]; · iexact H21
  isplitl [H23]; · iexact H23
  isplitl [H24]; · iexact H24
  isplitl [H27]; · iexact H27
  iintro ⟨H2, H3, H6, H7, H21, H23, H24, H27⟩
  isplitl [H21 H22 H23 H24 H25 H26 H27 Hoth Hg]
  · iexists (St.mk (VecWindow.put S.a ![1000 * (grid2.coords t 1).val, 0] S1000x64.size (k2_pay3 (k2_pay11 (blk V c 1 t)) S.m (k2_pay1 (blk V c 0 t) S.q) (blk V c 4 t) (blk V c 5 t))) S.b S.q S.m S.f S.r (k2_pay1 (blk V c 0 t) S.q))
    isplitr
    swap
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [Hoth]; · iexact Hoth
      iexact Hg
    ipureintro
    obtain ⟨hq, hm⟩ := hS.q0 (by omega) (by omega)
    rw [blk0 V c t (by omega), blk1, blk4, blk5]
    have h := hS.later0 (by omega) (by omega) (ix t) rfl e1 (prod (ins V c) S.q (ix t))
    unfold A0b at h
    rw [← hq, ← hm] at h
    exact h
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists d17; iexact H19
  iexists d18; iexact H20

end Cert.KernelIdeal.Main

end
-- ==== Proof.KernelIdeal.Body1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow

public import proofs.«01_k».proof.Proof.KernelIdeal.Conds

/-! The last call's body, run once for each of its eight cases: the phase (0 to 3), and whether the point is the phase's first.
A theorem names only the buffers its case touches. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

set_option maxHeartbeats 4000000 in
/-- Phase 1, the first point. -/
theorem run1_first (𝒱₀ : Variants) (c : Dev nD) (i : grid2.Coords) (hk : (i 0).val = 1) (hi : (i 1).val = 0)
    (arg2 : Memref sig .tc .vmem S1000x10000 .fp8e4m3) (harg2 : arg2.IsWhole) (arg3 : Memref sig .tc .vmem S1000x1 .f32) (harg3 : arg3.IsWhole) (arg4 : Memref sig .tc .vmem S10000x64 .f32) (harg4 : arg4.IsWhole) (arg5 : Memref sig .tc .vmem S1000x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S192x256 .f32) (harg13 : arg13.IsWhole) (arg14 : Memref sig .tc .vmem S1x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x13 .f32) (harg17 : arg17.IsWhole) (arg18 : Memref sig .tc .vmem S1x13 .f32) (harg18 : arg18.IsWhole) (arg19 : Memref sig .tc .vmem S1000x13 .f32) (harg19 : arg19.IsWhole) (arg20 : Memref sig .tc .vmem S1000x256 .f32) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .fp8e4m3) (harg23 : arg23.IsWhole) (arg24 : Memref sig .tc .vmem S1x64 .f32) (harg24 : arg24.IsWhole) (arg25 : Memref sig .tc .vmem S10000x64 .f32) (harg25 : arg25.IsWhole) (arg26 : Memref sig .tc .vmem S1000x10000 .fp8e4m3) (harg26 : arg26.IsWhole) (arg27 : Memref sig .tc .vmem S1000x64 .f32) (harg27 : arg27.IsWhole)
    (x3 : Vec F S1000x1 .f32) (x5 : Vec F S1000x64 .f32) (x8 : Vec F S1x64 .f32) (x9 : Vec F S64x64 .f32) (x21 : Vec F S10000x64 .f32) (x22 : Vec F S10000x64 .f32) (x23 : Vec F S10000x64 .fp8e4m3) (x24 : Vec F S1x64 .f32) (x25 : Vec F S10000x64 .f32) (x26 : Vec F S1000x10000 .fp8e4m3) (x27 : Vec F S1000x64 .f32) (E : Set ℕ) (K : PUnit → sProp 𝕄) :
    iprop(owns (c : Thread nD τ) arg3 fullShare x3 ∗ owns (c : Thread nD τ) arg5 fullShare x5 ∗ owns (c : Thread nD τ) arg8 fullShare x8 ∗ owns (c : Thread nD τ) arg9 fullShare x9 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27
        ∗ (iprop(owns (c : Thread nD τ) arg3 fullShare x3 ∗ owns (c : Thread nD τ) arg5 fullShare x5 ∗ owns (c : Thread nD τ) arg8 fullShare x8 ∗ owns (c : Thread nD τ) arg9 fullShare x9 ∗ owns (c : Thread nD τ) arg21 fullShare x21 ∗ owns (c : Thread nD τ) arg22 fullShare (VecWindow.put x22 ![1000 * (i 1).val, 0] S1000x64.size (k2_pay6 (k2_pay11 x3) (k2_pay18 x21) (k2_pay2 x26 (k2_pay19 x21)) x8 x5 x9)) ∗ owns (c : Thread nD τ) arg23 fullShare (k2_pay19 x21) ∗ owns (c : Thread nD τ) arg24 fullShare (k2_pay18 x21) ∗ owns (c : Thread nD τ) arg25 fullShare (VecWindow.put x25 ![1000 * (i 1).val, 0] S1000x64.size (k2_pay5 (k2_pay11 x3) (k2_pay18 x21) (k2_pay2 x26 (k2_pay19 x21)) x8 x5)) ∗ owns (c : Thread nD τ) arg26 fullShare x26 ∗ owns (c : Thread nD τ) arg27 fullShare (k2_pay2 x26 (k2_pay19 x21))) -∗ K ⟨⟩))
      ⊢ wp frame (wpE (defs₀ (F := F)) 𝒱₀ c none) E (cc2__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h1 : ¬ (k2_cond1 i = 1#1) := by rw [cond1_iff]; omega
  have h2 : ¬ first 0#32 i := by rw [first0_iff]; omega
  have h3 : first 1#32 i := by rw [first1_iff]; omega
  have h4 : ¬ first 2#32 i := by rw [first2_iff]; omega
  have h5 : ¬ first 3#32 i := by rw [first3_iff]; omega
  have h6 : ¬ handed i := by rw [handed_iff]; omega
  have h7 : (k2_cond7 i = 1#1) := by rw [cond7_iff]; omega
  have h8 : ¬ (k2_cond8 i = 1#1) := by rw [cond8_iff]; omega
  have h9 : (k2_cond9 i = 1#1) := by rw [cond9_iff]; omega
  have h10 : ¬ (k2_cond10 i = 1#1) := by rw [cond10_iff]; omega
  have h11 : ¬ (k2_cond11 i = 1#1) := by rw [cond11_iff]; omega
  simp only [cc2__main_body_eq_skeleton]; unfold cc2__main_body_skel
  simp only [k2_part1_eq_skeleton, k2_part2_eq_skeleton]; unfold k2_part2_skel
  unfold owns
  iintro ⟨⟨%f3, %hf3, H3⟩, ⟨%f5, %hf5, H5⟩, ⟨%f8, %hf8, H8⟩, ⟨%f9, %hf9, H9⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
  obtain rfl := harg3.eq_unread hf3
  obtain rfl := harg5.eq_unread hf5
  obtain rfl := harg8.eq_unread hf8
  obtain rfl := harg9.eq_unread hf9
  obtain rfl := harg21.eq_unread hf21
  obtain rfl := harg22.eq_unread hf22
  obtain rfl := harg23.eq_unread hf23
  obtain rfl := harg24.eq_unread hf24
  obtain rfl := harg25.eq_unread hf25
  obtain rfl := harg26.eq_unread hf26
  obtain rfl := harg27.eq_unread hf27
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H3]
  · iexists _; isplitr
    swap; · iexact H3
    ipureintro
    exact harg3.read_unread _
  isplitl [H5]
  · iexists _; isplitr
    swap; · iexact H5
    ipureintro
    exact harg5.read_unread _
  isplitl [H8]
  · iexists _; isplitr
    swap; · iexact H8
    ipureintro
    exact harg8.read_unread _
  isplitl [H9]
  · iexists _; isplitr
    swap; · iexact H9
    ipureintro
    exact harg9.read_unread _
  isplitl [H21]
  · iexists _; isplitr
    swap; · iexact H21
    ipureintro
    exact harg21.read_unread _
  isplitl [H22]
  · iexists _; isplitr
    swap; · iexact H22
    ipureintro
    sl_unfold_run_names
    rw [View.read_writes_cons_put _ _ _ _ _ (k2_off4_eq i), View.writes_nil]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H23]
  · iexists _; isplitr
    swap; · iexact H23
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H24]
  · iexists _; isplitr
    swap; · iexact H24
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H25]
  · iexists _; isplitr
    swap; · iexact H25
    ipureintro
    sl_unfold_run_names
    rw [View.read_writes_cons_put _ _ _ _ _ (k2_off4_eq i), View.writes_nil]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H26]
  · iexists _; isplitr
    swap; · iexact H26
    ipureintro
    exact harg26.read_unread _
  · iexists _; isplitr
    swap; · iexact H27
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]

set_option maxHeartbeats 4000000 in
/-- Phase 1, a later point. -/
theorem run1_later (𝒱₀ : Variants) (c : Dev nD) (i : grid2.Coords) (hk : (i 0).val = 1) (hi : (i 1).val ≠ 0)
    (arg2 : Memref sig .tc .vmem S1000x10000 .fp8e4m3) (harg2 : arg2.IsWhole) (arg3 : Memref sig .tc .vmem S1000x1 .f32) (harg3 : arg3.IsWhole) (arg4 : Memref sig .tc .vmem S10000x64 .f32) (harg4 : arg4.IsWhole) (arg5 : Memref sig .tc .vmem S1000x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S192x256 .f32) (harg13 : arg13.IsWhole) (arg14 : Memref sig .tc .vmem S1x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x13 .f32) (harg17 : arg17.IsWhole) (arg18 : Memref sig .tc .vmem S1x13 .f32) (harg18 : arg18.IsWhole) (arg19 : Memref sig .tc .vmem S1000x13 .f32) (harg19 : arg19.IsWhole) (arg20 : Memref sig .tc .vmem S1000x256 .f32) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .fp8e4m3) (harg23 : arg23.IsWhole) (arg24 : Memref sig .tc .vmem S1x64 .f32) (harg24 : arg24.IsWhole) (arg25 : Memref sig .tc .vmem S10000x64 .f32) (harg25 : arg25.IsWhole) (arg26 : Memref sig .tc .vmem S1000x10000 .fp8e4m3) (harg26 : arg26.IsWhole) (arg27 : Memref sig .tc .vmem S1000x64 .f32) (harg27 : arg27.IsWhole)
    (x2 : Vec F S1000x10000 .fp8e4m3) (x3 : Vec F S1000x1 .f32) (x5 : Vec F S1000x64 .f32) (x8 : Vec F S1x64 .f32) (x9 : Vec F S64x64 .f32) (x22 : Vec F S10000x64 .f32) (x23 : Vec F S10000x64 .fp8e4m3) (x24 : Vec F S1x64 .f32) (x25 : Vec F S10000x64 .f32) (x27 : Vec F S1000x64 .f32) (E : Set ℕ) (K : PUnit → sProp 𝕄) :
    iprop(owns (c : Thread nD τ) arg2 fullShare x2 ∗ owns (c : Thread nD τ) arg3 fullShare x3 ∗ owns (c : Thread nD τ) arg5 fullShare x5 ∗ owns (c : Thread nD τ) arg8 fullShare x8 ∗ owns (c : Thread nD τ) arg9 fullShare x9 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg27 fullShare x27
        ∗ (iprop(owns (c : Thread nD τ) arg2 fullShare x2 ∗ owns (c : Thread nD τ) arg3 fullShare x3 ∗ owns (c : Thread nD τ) arg5 fullShare x5 ∗ owns (c : Thread nD τ) arg8 fullShare x8 ∗ owns (c : Thread nD τ) arg9 fullShare x9 ∗ owns (c : Thread nD τ) arg22 fullShare (VecWindow.put x22 ![1000 * (i 1).val, 0] S1000x64.size (k2_pay6 (k2_pay11 x3) x24 (k2_pay1 x2 x23) x8 x5 x9)) ∗ owns (c : Thread nD τ) arg23 fullShare x23 ∗ owns (c : Thread nD τ) arg24 fullShare x24 ∗ owns (c : Thread nD τ) arg25 fullShare (VecWindow.put x25 ![1000 * (i 1).val, 0] S1000x64.size (k2_pay5 (k2_pay11 x3) x24 (k2_pay1 x2 x23) x8 x5)) ∗ owns (c : Thread nD τ) arg27 fullShare (k2_pay1 x2 x23)) -∗ K ⟨⟩))
      ⊢ wp frame (wpE (defs₀ (F := F)) 𝒱₀ c none) E (cc2__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h1 : ¬ (k2_cond1 i = 1#1) := by rw [cond1_iff]; omega
  have h2 : ¬ first 0#32 i := by rw [first0_iff]; omega
  have h3 : ¬ first 1#32 i := by rw [first1_iff]; omega
  have h4 : ¬ first 2#32 i := by rw [first2_iff]; omega
  have h5 : ¬ first 3#32 i := by rw [first3_iff]; omega
  have h6 : handed i := by rw [handed_iff]; omega
  have h7 : ¬ (k2_cond7 i = 1#1) := by rw [cond7_iff]; omega
  have h8 : ¬ (k2_cond8 i = 1#1) := by rw [cond8_iff]; omega
  have h9 : (k2_cond9 i = 1#1) := by rw [cond9_iff]; omega
  have h10 : ¬ (k2_cond10 i = 1#1) := by rw [cond10_iff]; omega
  have h11 : ¬ (k2_cond11 i = 1#1) := by rw [cond11_iff]; omega
  simp only [cc2__main_body_eq_skeleton]; unfold cc2__main_body_skel
  simp only [k2_part1_eq_skeleton, k2_part2_eq_skeleton]; unfold k2_part2_skel
  unfold owns
  iintro ⟨⟨%f2, %hf2, H2⟩, ⟨%f3, %hf3, H3⟩, ⟨%f5, %hf5, H5⟩, ⟨%f8, %hf8, H8⟩, ⟨%f9, %hf9, H9⟩, ⟨%f22, %hf22, H22⟩, ⟨%f23, %hf23, H23⟩, ⟨%f24, %hf24, H24⟩, ⟨%f25, %hf25, H25⟩, ⟨%f27, %hf27, H27⟩, Hk⟩
  obtain rfl := harg2.eq_unread hf2
  obtain rfl := harg3.eq_unread hf3
  obtain rfl := harg5.eq_unread hf5
  obtain rfl := harg8.eq_unread hf8
  obtain rfl := harg9.eq_unread hf9
  obtain rfl := harg22.eq_unread hf22
  obtain rfl := harg23.eq_unread hf23
  obtain rfl := harg24.eq_unread hf24
  obtain rfl := harg25.eq_unread hf25
  obtain rfl := harg27.eq_unread hf27
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr
    swap; · iexact H2
    ipureintro
    exact harg2.read_unread _
  isplitl [H3]
  · iexists _; isplitr
    swap; · iexact H3
    ipureintro
    exact harg3.read_unread _
  isplitl [H5]
  · iexists _; isplitr
    swap; · iexact H5
    ipureintro
    exact harg5.read_unread _
  isplitl [H8]
  · iexists _; isplitr
    swap; · iexact H8
    ipureintro
    exact harg8.read_unread _
  isplitl [H9]
  · iexists _; isplitr
    swap; · iexact H9
    ipureintro
    exact harg9.read_unread _
  isplitl [H22]
  · iexists _; isplitr
    swap; · iexact H22
    ipureintro
    sl_unfold_run_names
    rw [View.read_writes_cons_put _ _ _ _ _ (k2_off4_eq i), View.writes_nil]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H23]
  · iexists _; isplitr
    swap; · iexact H23
    ipureintro
    exact harg23.read_unread _
  isplitl [H24]
  · iexists _; isplitr
    swap; · iexact H24
    ipureintro
    exact harg24.read_unread _
  isplitl [H25]
  · iexists _; isplitr
    swap; · iexact H25
    ipureintro
    sl_unfold_run_names
    rw [View.read_writes_cons_put _ _ _ _ _ (k2_off4_eq i), View.writes_nil]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  · iexists _; isplitr
    swap; · iexact H27
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]

end Cert.KernelIdeal.Main

end
-- ==== Proof.KernelIdeal.Sound1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.Dat2
public import proofs.«01_k».proof.Proof.KernelIdeal.Body1

/-! The last call's body at the points of phase 1: the run applies, and moves what the scratch buffers hold on. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

open Cert.Rows

variable (ι : Ix)

local notation "𝕕" => dat (Ix := Ix) (U := U) (Lvl := Lvl) V D

set_option maxHeartbeats 2000000 in
/-- The body at the first point of phase 1. -/
theorem sound1_first (c : Dev nD) (t : Fin cfg2.N) (ht : t.val = 10) :
    bodyPre (U := U) (Lvl := Lvl) V D ι c t ⊢ wp frame (wpE (defs₀ (F := F)) 𝒱₀ c none) Set.univ (bodyAt2 t) (fun _ => bodyPost (U := U) (Lvl := Lvl) V D ι c t) := by
  have e0 := at0 t
  have e1 := at1 t
  have hk : (grid2.coords t 0).val = 1 := by omega
  have hi : (grid2.coords t 1).val = 0 := by omega
  unfold bodyPre bodyPost bodyAt2
  simp only [before0, before1, before2, before3, before4, before5, before6, before7, before8, before9, before10, before11, before12, before13, before14, before15, before16]
  rw [show (𝕕 c).Φ t.castSucc = phi (Ix := Ix) (U := U) (Lvl := Lvl) V c t.val from rfl,
    show (𝕕 c).Φ t.succ = phi (Ix := Ix) (U := U) (Lvl := Lvl) V c (t.val + 1) from rfl,
    show (𝕕 c).owesAt ι t.succ = (𝕕 c).owesAt ι t.castSucc from rfl,
    after0, after1, after2, after3, after4, after5, after6, after7, after8, after9, after10, after11, after12, after13, after14, after15, after16, left17_idle V D c t (by omega), left18_idle V D c t (by omega)]
  unfold phi
  iintro ⟨⟨%S, %hS, H21, H22, H23, H24, H25, H26, H27, Hoth, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩⟩
  iapply (run1_first (Ix := Ix) (U := U) (Lvl := Lvl) 𝒱₀ c (grid2.coords t) hk hi (st0 t) (st0_whole t) (st1 t) (st1_whole t) (st2 t) (st2_whole t) (st3 t) (st3_whole t) (st4 t) (st4_whole t) (st5 t) (st5_whole t) (st6 t) (st6_whole t) (st7 t) (st7_whole t) (st8 t) (st8_whole t) (st9 t) (st9_whole t) (st10 t) (st10_whole t) (st11 t) (st11_whole t) (st12 t) (st12_whole t) (st13 t) (st13_whole t) (st14 t) (st14_whole t) (st15 t) (st15_whole t) (st16 t) (st16_whole t) (st17 t) (st17_whole t) (st18 t) (st18_whole t) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (blk V c 1 t) (blk V c 3 t) (blk V c 6 t) (blk V c 7 t) S.a S.b S.q S.m S.f S.r S.acc Set.univ _)
  isplitl [H3]; · iexact H3
  isplitl [H5]; · iexact H5
  isplitl [H8]; · iexact H8
  isplitl [H9]; · iexact H9
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H3, H5, H8, H9, H21, H22, H23, H24, H25, H26, H27⟩
  isplitl [H21 H22 H23 H24 H25 H26 H27 Hoth Hg]
  · iexists (St.mk S.a (VecWindow.put S.b ![1000 * (grid2.coords t 1).val, 0] S1000x64.size (k2_pay6 (k2_pay11 (blk V c 1 t)) (k2_pay18 S.a) (k2_pay2 S.r (k2_pay19 S.a)) (blk V c 6 t) (blk V c 3 t) (blk V c 7 t))) (k2_pay19 S.a) (k2_pay18 S.a) (VecWindow.put S.f ![1000 * (grid2.coords t 1).val, 0] S1000x64.size (k2_pay5 (k2_pay11 (blk V c 1 t)) (k2_pay18 S.a) (k2_pay2 S.r (k2_pay19 S.a)) (blk V c 6 t) (blk V c 3 t))) S.r (k2_pay2 S.r (k2_pay19 S.a)))
    isplitr
    swap
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [Hoth]; · iexact Hoth
      iexact Hg
    ipureintro
    have ha : S.a = A0 (ins V c) := hS.a0_all (by omega) (by omega)
    have hr : S.r = k2_pay12 (rows (ins V c).x0 0) := hS.r (by omega)
    have hix : ix t = 0 := Fin.ext (by show t.val % 10 = 0; omega)
    have h := hS.step1 (by omega) (by omega) (ix t) rfl e1 (k2_pay2 S.r (k2_pay19 S.a)) (q := k2_pay19 S.a) (m := k2_pay18 S.a)
      (by rw [ha]; rfl) (by rw [ha]; rfl)
    rw [blk1, blk6, blk3, blk7]
    refine Eq.mp ?_ h
    unfold Bb F1b
    rw [hix, ← held_prod, ← hr, show Q1 (ins V c) = k2_pay19 S.a by rw [ha]; rfl, show M1 (ins V c) = k2_pay18 S.a by rw [ha]; rfl]
    rfl
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists d17; iexact H19
  iexists d18; iexact H20

set_option maxHeartbeats 2000000 in
/-- The body at a later point of phase 1. -/
theorem sound1_later (c : Dev nD) (t : Fin cfg2.N) (ht : 10 < t.val ∧ t.val < 20) :
    bodyPre (U := U) (Lvl := Lvl) V D ι c t ⊢ wp frame (wpE (defs₀ (F := F)) 𝒱₀ c none) Set.univ (bodyAt2 t) (fun _ => bodyPost (U := U) (Lvl := Lvl) V D ι c t) := by
  have e0 := at0 t
  have e1 := at1 t
  have hk : (grid2.coords t 0).val = 1 := by omega
  have hi : (grid2.coords t 1).val ≠ 0 := by omega
  unfold bodyPre bodyPost bodyAt2
  simp only [before0, before1, before2, before3, before4, before5, before6, before7, before8, before9, before10, before11, before12, before13, before14, before15, before16]
  rw [show (𝕕 c).Φ t.castSucc = phi (Ix := Ix) (U := U) (Lvl := Lvl) V c t.val from rfl,
    show (𝕕 c).Φ t.succ = phi (Ix := Ix) (U := U) (Lvl := Lvl) V c (t.val + 1) from rfl,
    show (𝕕 c).owesAt ι t.succ = (𝕕 c).owesAt ι t.castSucc from rfl,
    after0, after1, after2, after3, after4, after5, after6, after7, after8, after9, after10, after11, after12, after13, after14, after15, after16, left17_idle V D c t (by omega), left18_idle V D c t (by omega)]
  unfold phi
  iintro ⟨⟨%S, %hS, H21, H22, H23, H24, H25, H26, H27, Hoth, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩⟩
  iapply (run1_later (Ix := Ix) (U := U) (Lvl := Lvl) 𝒱₀ c (grid2.coords t) hk hi (st0 t) (st0_whole t) (st1 t) (st1_whole t) (st2 t) (st2_whole t) (st3 t) (st3_whole t) (st4 t) (st4_whole t) (st5 t) (st5_whole t) (st6 t) (st6_whole t) (st7 t) (st7_whole t) (st8 t) (st8_whole t) (st9 t) (st9_whole t) (st10 t) (st10_whole t) (st11 t) (st11_whole t) (st12 t) (st12_whole t) (st13 t) (st13_whole t) (st14 t) (st14_whole t) (st15 t) (st15_whole t) (st16 t) (st16_whole t) (st17 t) (st17_whole t) (st18 t) (st18_whole t) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (blk V c 0 t) (blk V c 1 t) (blk V c 3 t) (blk V c 6 t) (blk V c 7 t) S.b S.q S.m S.f S.acc Set.univ _)
  isplitl [H2]; · iexact H2
  isplitl [H3]; · iexact H3
  isplitl [H5]; · iexact H5
  isplitl [H8]; · iexact H8
  isplitl [H9]; · iexact H9
  isplitl [H22]; · iexact H22
  isplitl [H23]; · iexact H23
  isplitl [H24]; · iexact H24
  isplitl [H25]; · iexact H25
  isplitl [H27]; · iexact H27
  iintro ⟨H2, H3, H5, H8, H9, H22, H23, H24, H25, H27⟩
  isplitl [H21 H22 H23 H24 H25 H26 H27 Hoth Hg]
  · iexists (St.mk S.a (VecWindow.put S.b ![1000 * (grid2.coords t 1).val, 0] S1000x64.size (k2_pay6 (k2_pay11 (blk V c 1 t)) S.m (k2_pay1 (blk V c 0 t) S.q) (blk V c 6 t) (blk V c 3 t) (blk V c 7 t))) S.q S.m (VecWindow.put S.f ![1000 * (grid2.coords t 1).val, 0] S1000x64.size (k2_pay5 (k2_pay11 (blk V c 1 t)) S.m (k2_pay1 (blk V c 0 t) S.q) (blk V c 6 t) (blk V c 3 t))) S.r (k2_pay1 (blk V c 0 t) S.q))
    isplitr
    swap
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [Hoth]; · iexact Hoth
      iexact Hg
    ipureintro
    obtain ⟨hq, hm⟩ := hS.q1 (by omega) (by omega)
    have h := hS.step1 (by omega) (by omega) (ix t) rfl e1 (prod (ins V c) S.q (ix t)) hq hm
    unfold Bb F1b at h
    rw [← hq, ← hm] at h
    rw [blk0 V c t (by omega), blk1, blk6, blk3, blk7]
    exact h
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists d17; iexact H19
  iexists d18; iexact H20

end Cert.KernelIdeal.Main

end
-- ==== Proof.KernelIdeal.Body2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow

public import proofs.«01_k».proof.Proof.KernelIdeal.Conds

/-! The last call's body, run once for each of its eight cases: the phase (0 to 3), and whether the point is the phase's first.
A theorem names only the buffers its case touches. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

set_option maxHeartbeats 4000000 in
/-- Phase 2, the first point. -/
theorem run2_first (𝒱₀ : Variants) (c : Dev nD) (i : grid2.Coords) (hk : (i 0).val = 2) (hi : (i 1).val = 0)
    (arg2 : Memref sig .tc .vmem S1000x10000 .fp8e4m3) (harg2 : arg2.IsWhole) (arg3 : Memref sig .tc .vmem S1000x1 .f32) (harg3 : arg3.IsWhole) (arg4 : Memref sig .tc .vmem S10000x64 .f32) (harg4 : arg4.IsWhole) (arg5 : Memref sig .tc .vmem S1000x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S192x256 .f32) (harg13 : arg13.IsWhole) (arg14 : Memref sig .tc .vmem S1x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x13 .f32) (harg17 : arg17.IsWhole) (arg18 : Memref sig .tc .vmem S1x13 .f32) (harg18 : arg18.IsWhole) (arg19 : Memref sig .tc .vmem S1000x13 .f32) (harg19 : arg19.IsWhole) (arg20 : Memref sig .tc .vmem S1000x256 .f32) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .fp8e4m3) (harg23 : arg23.IsWhole) (arg24 : Memref sig .tc .vmem S1x64 .f32) (harg24 : arg24.IsWhole) (arg25 : Memref sig .tc .vmem S10000x64 .f32) (harg25 : arg25.IsWhole) (arg26 : Memref sig .tc .vmem S1000x10000 .fp8e4m3) (harg26 : arg26.IsWhole) (arg27 : Memref sig .tc .vmem S1000x64 .f32) (harg27 : arg27.IsWhole)
    (x3 : Vec F S1000x1 .f32) (x10 : Vec F S1x64 .f32) (x11 : Vec F S64x64 .f32) (x21 : Vec F S10000x64 .f32) (x22 : Vec F S10000x64 .f32) (x23 : Vec F S10000x64 .fp8e4m3) (x24 : Vec F S1x64 .f32) (x26 : Vec F S1000x10000 .fp8e4m3) (x27 : Vec F S1000x64 .f32) (E : Set ℕ) (K : PUnit → sProp 𝕄) :
    iprop(owns (c : Thread nD τ) arg3 fullShare x3 ∗ owns (c : Thread nD τ) arg10 fullShare x10 ∗ owns (c : Thread nD τ) arg11 fullShare x11 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg26 fullShare x26 ∗ owns (c : Thread nD τ) arg27 fullShare x27
        ∗ (iprop(owns (c : Thread nD τ) arg3 fullShare x3 ∗ owns (c : Thread nD τ) arg10 fullShare x10 ∗ owns (c : Thread nD τ) arg11 fullShare x11 ∗ owns (c : Thread nD τ) arg21 fullShare (VecWindow.put x21 ![1000 * (i 1).val, 0] S1000x64.size (k2_pay7 (k2_pay11 x3) (k2_pay21 x22) (k2_pay2 x26 (k2_pay22 x22)) x10 x11)) ∗ owns (c : Thread nD τ) arg22 fullShare x22 ∗ owns (c : Thread nD τ) arg23 fullShare (k2_pay22 x22) ∗ owns (c : Thread nD τ) arg24 fullShare (k2_pay21 x22) ∗ owns (c : Thread nD τ) arg26 fullShare x26 ∗ owns (c : Thread nD τ) arg27 fullShare (k2_pay2 x26 (k2_pay22 x22))) -∗ K ⟨⟩))
      ⊢ wp frame (wpE (defs₀ (F := F)) 𝒱₀ c none) E (cc2__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h1 : ¬ (k2_cond1 i = 1#1) := by rw [cond1_iff]; omega
  have h2 : ¬ first 0#32 i := by rw [first0_iff]; omega
  have h3 : ¬ first 1#32 i := by rw [first1_iff]; omega
  have h4 : first 2#32 i := by rw [first2_iff]; omega
  have h5 : ¬ first 3#32 i := by rw [first3_iff]; omega
  have h6 : ¬ handed i := by rw [handed_iff]; omega
  have h7 : (k2_cond7 i = 1#1) := by rw [cond7_iff]; omega
  have h8 : ¬ (k2_cond8 i = 1#1) := by rw [cond8_iff]; omega
  have h9 : ¬ (k2_cond9 i = 1#1) := by rw [cond9_iff]; omega
  have h10 : (k2_cond10 i = 1#1) := by rw [cond10_iff]; omega
  have h11 : ¬ (k2_cond11 i = 1#1) := by rw [cond11_iff]; omega
  simp only [cc2__main_body_eq_skeleton]; unfold cc2__main_body_skel
  simp only [k2_part1_eq_skeleton, k2_part2_eq_skeleton]; unfold k2_part2_skel
  unfold owns
  iintro ⟨⟨%f3, %hf3, H3⟩, ⟨%f10, %hf10, H10⟩, ⟨%f11, %hf11, H11⟩, ⟨%f21, %hf21, H21⟩, ⟨%f22, %hf22, H22⟩, ⟨%f23, %hf23, H23⟩, ⟨%f24, %hf24, H24⟩, ⟨%f26, %hf26, H26⟩, ⟨%f27, %hf27, H27⟩, Hk⟩
  obtain rfl := harg3.eq_unread hf3
  obtain rfl := harg10.eq_unread hf10
  obtain rfl := harg11.eq_unread hf11
  obtain rfl := harg21.eq_unread hf21
  obtain rfl := harg22.eq_unread hf22
  obtain rfl := harg23.eq_unread hf23
  obtain rfl := harg24.eq_unread hf24
  obtain rfl := harg26.eq_unread hf26
  obtain rfl := harg27.eq_unread hf27
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H3]
  · iexists _; isplitr
    swap; · iexact H3
    ipureintro
    exact harg3.read_unread _
  isplitl [H10]
  · iexists _; isplitr
    swap; · iexact H10
    ipureintro
    exact harg10.read_unread _
  isplitl [H11]
  · iexists _; isplitr
    swap; · iexact H11
    ipureintro
    exact harg11.read_unread _
  isplitl [H21]
  · iexists _; isplitr
    swap; · iexact H21
    ipureintro
    sl_unfold_run_names
    rw [View.read_writes_cons_put _ _ _ _ _ (k2_off5_eq i), View.writes_nil]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H22]
  · iexists _; isplitr
    swap; · iexact H22
    ipureintro
    exact harg22.read_unread _
  isplitl [H23]
  · iexists _; isplitr
    swap; · iexact H23
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H24]
  · iexists _; isplitr
    swap; · iexact H24
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H26]
  · iexists _; isplitr
    swap; · iexact H26
    ipureintro
    exact harg26.read_unread _
  · iexists _; isplitr
    swap; · iexact H27
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]

set_option maxHeartbeats 4000000 in
/-- Phase 2, a later point. -/
theorem run2_later (𝒱₀ : Variants) (c : Dev nD) (i : grid2.Coords) (hk : (i 0).val = 2) (hi : (i 1).val ≠ 0)
    (arg2 : Memref sig .tc .vmem S1000x10000 .fp8e4m3) (harg2 : arg2.IsWhole) (arg3 : Memref sig .tc .vmem S1000x1 .f32) (harg3 : arg3.IsWhole) (arg4 : Memref sig .tc .vmem S10000x64 .f32) (harg4 : arg4.IsWhole) (arg5 : Memref sig .tc .vmem S1000x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S192x256 .f32) (harg13 : arg13.IsWhole) (arg14 : Memref sig .tc .vmem S1x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x13 .f32) (harg17 : arg17.IsWhole) (arg18 : Memref sig .tc .vmem S1x13 .f32) (harg18 : arg18.IsWhole) (arg19 : Memref sig .tc .vmem S1000x13 .f32) (harg19 : arg19.IsWhole) (arg20 : Memref sig .tc .vmem S1000x256 .f32) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .fp8e4m3) (harg23 : arg23.IsWhole) (arg24 : Memref sig .tc .vmem S1x64 .f32) (harg24 : arg24.IsWhole) (arg25 : Memref sig .tc .vmem S10000x64 .f32) (harg25 : arg25.IsWhole) (arg26 : Memref sig .tc .vmem S1000x10000 .fp8e4m3) (harg26 : arg26.IsWhole) (arg27 : Memref sig .tc .vmem S1000x64 .f32) (harg27 : arg27.IsWhole)
    (x2 : Vec F S1000x10000 .fp8e4m3) (x3 : Vec F S1000x1 .f32) (x10 : Vec F S1x64 .f32) (x11 : Vec F S64x64 .f32) (x21 : Vec F S10000x64 .f32) (x23 : Vec F S10000x64 .fp8e4m3) (x24 : Vec F S1x64 .f32) (x27 : Vec F S1000x64 .f32) (E : Set ℕ) (K : PUnit → sProp 𝕄) :
    iprop(owns (c : Thread nD τ) arg2 fullShare x2 ∗ owns (c : Thread nD τ) arg3 fullShare x3 ∗ owns (c : Thread nD τ) arg10 fullShare x10 ∗ owns (c : Thread nD τ) arg11 fullShare x11 ∗ owns (c : Thread nD τ) arg21 fullShare x21 ∗ owns (c : Thread nD τ) arg23 fullShare x23 ∗ owns (c : Thread nD τ) arg24 fullShare x24 ∗ owns (c : Thread nD τ) arg27 fullShare x27
        ∗ (iprop(owns (c : Thread nD τ) arg2 fullShare x2 ∗ owns (c : Thread nD τ) arg3 fullShare x3 ∗ owns (c : Thread nD τ) arg10 fullShare x10 ∗ owns (c : Thread nD τ) arg11 fullShare x11 ∗ owns (c : Thread nD τ) arg21 fullShare (VecWindow.put x21 ![1000 * (i 1).val, 0] S1000x64.size (k2_pay7 (k2_pay11 x3) x24 (k2_pay1 x2 x23) x10 x11)) ∗ owns (c : Thread nD τ) arg23 fullShare x23 ∗ owns (c : Thread nD τ) arg24 fullShare x24 ∗ owns (c : Thread nD τ) arg27 fullShare (k2_pay1 x2 x23)) -∗ K ⟨⟩))
      ⊢ wp frame (wpE (defs₀ (F := F)) 𝒱₀ c none) E (cc2__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h1 : ¬ (k2_cond1 i = 1#1) := by rw [cond1_iff]; omega
  have h2 : ¬ first 0#32 i := by rw [first0_iff]; omega
  have h3 : ¬ first 1#32 i := by rw [first1_iff]; omega
  have h4 : ¬ first 2#32 i := by rw [first2_iff]; omega
  have h5 : ¬ first 3#32 i := by rw [first3_iff]; omega
  have h6 : handed i := by rw [handed_iff]; omega
  have h7 : ¬ (k2_cond7 i = 1#1) := by rw [cond7_iff]; omega
  have h8 : ¬ (k2_cond8 i = 1#1) := by rw [cond8_iff]; omega
  have h9 : ¬ (k2_cond9 i = 1#1) := by rw [cond9_iff]; omega
  have h10 : (k2_cond10 i = 1#1) := by rw [cond10_iff]; omega
  have h11 : ¬ (k2_cond11 i = 1#1) := by rw [cond11_iff]; omega
  simp only [cc2__main_body_eq_skeleton]; unfold cc2__main_body_skel
  simp only [k2_part1_eq_skeleton, k2_part2_eq_skeleton]; unfold k2_part2_skel
  unfold owns
  iintro ⟨⟨%f2, %hf2, H2⟩, ⟨%f3, %hf3, H3⟩, ⟨%f10, %hf10, H10⟩, ⟨%f11, %hf11, H11⟩, ⟨%f21, %hf21, H21⟩, ⟨%f23, %hf23, H23⟩, ⟨%f24, %hf24, H24⟩, ⟨%f27, %hf27, H27⟩, Hk⟩
  obtain rfl := harg2.eq_unread hf2
  obtain rfl := harg3.eq_unread hf3
  obtain rfl := harg10.eq_unread hf10
  obtain rfl := harg11.eq_unread hf11
  obtain rfl := harg21.eq_unread hf21
  obtain rfl := harg23.eq_unread hf23
  obtain rfl := harg24.eq_unread hf24
  obtain rfl := harg27.eq_unread hf27
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr
    swap; · iexact H2
    ipureintro
    exact harg2.read_unread _
  isplitl [H3]
  · iexists _; isplitr
    swap; · iexact H3
    ipureintro
    exact harg3.read_unread _
  isplitl [H10]
  · iexists _; isplitr
    swap; · iexact H10
    ipureintro
    exact harg10.read_unread _
  isplitl [H11]
  · iexists _; isplitr
    swap; · iexact H11
    ipureintro
    exact harg11.read_unread _
  isplitl [H21]
  · iexists _; isplitr
    swap; · iexact H21
    ipureintro
    sl_unfold_run_names
    rw [View.read_writes_cons_put _ _ _ _ _ (k2_off5_eq i), View.writes_nil]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H23]
  · iexists _; isplitr
    swap; · iexact H23
    ipureintro
    exact harg23.read_unread _
  isplitl [H24]
  · iexists _; isplitr
    swap; · iexact H24
    ipureintro
    exact harg24.read_unread _
  · iexists _; isplitr
    swap; · iexact H27
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]

end Cert.KernelIdeal.Main

end
-- ==== Proof.KernelIdeal.Sound2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.Dat2
public import proofs.«01_k».proof.Proof.KernelIdeal.Body2

/-! The last call's body at the points of phase 2: the run applies, and moves what the scratch buffers hold on. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

open Cert.Rows

variable (ι : Ix)

local notation "𝕕" => dat (Ix := Ix) (U := U) (Lvl := Lvl) V D

set_option maxHeartbeats 2000000 in
/-- The body at the first point of phase 2. -/
theorem sound2_first (c : Dev nD) (t : Fin cfg2.N) (ht : t.val = 20) :
    bodyPre (U := U) (Lvl := Lvl) V D ι c t ⊢ wp frame (wpE (defs₀ (F := F)) 𝒱₀ c none) Set.univ (bodyAt2 t) (fun _ => bodyPost (U := U) (Lvl := Lvl) V D ι c t) := by
  have e0 := at0 t
  have e1 := at1 t
  have hk : (grid2.coords t 0).val = 2 := by omega
  have hi : (grid2.coords t 1).val = 0 := by omega
  unfold bodyPre bodyPost bodyAt2
  simp only [before0, before1, before2, before3, before4, before5, before6, before7, before8, before9, before10, before11, before12, before13, before14, before15, before16]
  rw [show (𝕕 c).Φ t.castSucc = phi (Ix := Ix) (U := U) (Lvl := Lvl) V c t.val from rfl,
    show (𝕕 c).Φ t.succ = phi (Ix := Ix) (U := U) (Lvl := Lvl) V c (t.val + 1) from rfl,
    show (𝕕 c).owesAt ι t.succ = (𝕕 c).owesAt ι t.castSucc from rfl,
    after0, after1, after2, after3, after4, after5, after6, after7, after8, after9, after10, after11, after12, after13, after14, after15, after16, left17_idle V D c t (by omega), left18_idle V D c t (by omega)]
  unfold phi
  iintro ⟨⟨%S, %hS, H21, H22, H23, H24, H25, H26, H27, Hoth, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩⟩
  iapply (run2_first (Ix := Ix) (U := U) (Lvl := Lvl) 𝒱₀ c (grid2.coords t) hk hi (st0 t) (st0_whole t) (st1 t) (st1_whole t) (st2 t) (st2_whole t) (st3 t) (st3_whole t) (st4 t) (st4_whole t) (st5 t) (st5_whole t) (st6 t) (st6_whole t) (st7 t) (st7_whole t) (st8 t) (st8_whole t) (st9 t) (st9_whole t) (st10 t) (st10_whole t) (st11 t) (st11_whole t) (st12 t) (st12_whole t) (st13 t) (st13_whole t) (st14 t) (st14_whole t) (st15 t) (st15_whole t) (st16 t) (st16_whole t) (st17 t) (st17_whole t) (st18 t) (st18_whole t) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (blk V c 1 t) (blk V c 8 t) (blk V c 9 t) S.a S.b S.q S.m S.r S.acc Set.univ _)
  isplitl [H3]; · iexact H3
  isplitl [H10]; · iexact H10
  isplitl [H11]; · iexact H11
  isplitl [H21]; · iexact H21
  isplitl [H22]; · iexact H22
  isplitl [H23]; · iexact H23
  isplitl [H24]; · iexact H24
  isplitl [H26]; · iexact H26
  isplitl [H27]; · iexact H27
  iintro ⟨H3, H10, H11, H21, H22, H23, H24, H26, H27⟩
  isplitl [H21 H22 H23 H24 H25 H26 H27 Hoth Hg]
  · iexists (St.mk (VecWindow.put S.a ![1000 * (grid2.coords t 1).val, 0] S1000x64.size (k2_pay7 (k2_pay11 (blk V c 1 t)) (k2_pay21 S.b) (k2_pay2 S.r (k2_pay22 S.b)) (blk V c 8 t) (blk V c 9 t))) S.b (k2_pay22 S.b) (k2_pay21 S.b) S.f S.r (k2_pay2 S.r (k2_pay22 S.b)))
    isplitr
    swap
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [Hoth]; · iexact Hoth
      iexact Hg
    ipureintro
    have ha : S.b = B (ins V c) := hS.b_all (by omega)
    have hr : S.r = k2_pay12 (rows (ins V c).x0 0) := hS.r (by omega)
    have hix : ix t = 0 := Fin.ext (by show t.val % 10 = 0; omega)
    have h := hS.step2 (by omega) (by omega) (ix t) rfl e1 (k2_pay2 S.r (k2_pay22 S.b)) (q := k2_pay22 S.b) (m := k2_pay21 S.b)
      (by rw [ha]; rfl) (by rw [ha]; rfl)
    rw [blk1, blk8, blk9]
    refine Eq.mp ?_ h
    unfold A2b
    rw [hix, ← held_prod, ← hr, show Q2 (ins V c) = k2_pay22 S.b by rw [ha]; rfl, show M2 (ins V c) = k2_pay21 S.b by rw [ha]; rfl]
    rfl
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists d17; iexact H19
  iexists d18; iexact H20

set_option maxHeartbeats 2000000 in
/-- The body at a later point of phase 2. -/
theorem sound2_later (c : Dev nD) (t : Fin cfg2.N) (ht : 20 < t.val ∧ t.val < 30) :
    bodyPre (U := U) (Lvl := Lvl) V D ι c t ⊢ wp frame (wpE (defs₀ (F := F)) 𝒱₀ c none) Set.univ (bodyAt2 t) (fun _ => bodyPost (U := U) (Lvl := Lvl) V D ι c t) := by
  have e0 := at0 t
  have e1 := at1 t
  have hk : (grid2.coords t 0).val = 2 := by omega
  have hi : (grid2.coords t 1).val ≠ 0 := by omega
  unfold bodyPre bodyPost bodyAt2
  simp only [before0, before1, before2, before3, before4, before5, before6, before7, before8, before9, before10, before11, before12, before13, before14, before15, before16]
  rw [show (𝕕 c).Φ t.castSucc = phi (Ix := Ix) (U := U) (Lvl := Lvl) V c t.val from rfl,
    show (𝕕 c).Φ t.succ = phi (Ix := Ix) (U := U) (Lvl := Lvl) V c (t.val + 1) from rfl,
    show (𝕕 c).owesAt ι t.succ = (𝕕 c).owesAt ι t.castSucc from rfl,
    after0, after1, after2, after3, after4, after5, after6, after7, after8, after9, after10, after11, after12, after13, after14, after15, after16, left17_idle V D c t (by omega), left18_idle V D c t (by omega)]
  unfold phi
  iintro ⟨⟨%S, %hS, H21, H22, H23, H24, H25, H26, H27, Hoth, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩⟩
  iapply (run2_later (Ix := Ix) (U := U) (Lvl := Lvl) 𝒱₀ c (grid2.coords t) hk hi (st0 t) (st0_whole t) (st1 t) (st1_whole t) (st2 t) (st2_whole t) (st3 t) (st3_whole t) (st4 t) (st4_whole t) (st5 t) (st5_whole t) (st6 t) (st6_whole t) (st7 t) (st7_whole t) (st8 t) (st8_whole t) (st9 t) (st9_whole t) (st10 t) (st10_whole t) (st11 t) (st11_whole t) (st12 t) (st12_whole t) (st13 t) (st13_whole t) (st14 t) (st14_whole t) (st15 t) (st15_whole t) (st16 t) (st16_whole t) (st17 t) (st17_whole t) (st18 t) (st18_whole t) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (blk V c 0 t) (blk V c 1 t) (blk V c 8 t) (blk V c 9 t) S.a S.q S.m S.acc Set.univ _)
  isplitl [H2]; · iexact H2
  isplitl [H3]; · iexact H3
  isplitl [H10]; · iexact H10
  isplitl [H11]; · iexact H11
  isplitl [H21]; · iexact H21
  isplitl [H23]; · iexact H23
  isplitl [H24]; · iexact H24
  isplitl [H27]; · iexact H27
  iintro ⟨H2, H3, H10, H11, H21, H23, H24, H27⟩
  isplitl [H21 H22 H23 H24 H25 H26 H27 Hoth Hg]
  · iexists (St.mk (VecWindow.put S.a ![1000 * (grid2.coords t 1).val, 0] S1000x64.size (k2_pay7 (k2_pay11 (blk V c 1 t)) S.m (k2_pay1 (blk V c 0 t) S.q) (blk V c 8 t) (blk V c 9 t))) S.b S.q S.m S.f S.r (k2_pay1 (blk V c 0 t) S.q))
    isplitr
    swap
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [Hoth]; · iexact Hoth
      iexact Hg
    ipureintro
    obtain ⟨hq, hm⟩ := hS.q2 (by omega) (by omega)
    have h := hS.step2 (by omega) (by omega) (ix t) rfl e1 (prod (ins V c) S.q (ix t)) hq hm
    unfold A2b at h
    rw [← hq, ← hm] at h
    rw [blk0 V c t (by omega), blk1, blk8, blk9]
    exact h
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists d17; iexact H19
  iexists d18; iexact H20

end Cert.KernelIdeal.Main

end
-- ==== Proof.KernelIdeal.Body3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow

public import proofs.«01_k».proof.Proof.KernelIdeal.Conds

/-! The last call's body, run once for each of its eight cases: the phase (0 to 3), and whether the point is the phase's first.
A theorem names only the buffers its case touches. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

set_option maxHeartbeats 4000000 in
/-- Phase 3, the first point. -/
theorem run3_first (𝒱₀ : Variants) (c : Dev nD) (i : grid2.Coords) (hk : (i 0).val = 3) (hi : (i 1).val = 0)
    (arg2 : Memref sig .tc .vmem S1000x10000 .fp8e4m3) (harg2 : arg2.IsWhole) (arg3 : Memref sig .tc .vmem S1000x1 .f32) (harg3 : arg3.IsWhole) (arg4 : Memref sig .tc .vmem S10000x64 .f32) (harg4 : arg4.IsWhole) (arg5 : Memref sig .tc .vmem S1000x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S192x256 .f32) (harg13 : arg13.IsWhole) (arg14 : Memref sig .tc .vmem S1x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x13 .f32) (harg17 : arg17.IsWhole) (arg18 : Memref sig .tc .vmem S1x13 .f32) (harg18 : arg18.IsWhole) (arg19 : Memref sig .tc .vmem S1000x13 .f32) (harg19 : arg19.IsWhole) (arg20 : Memref sig .tc .vmem S1000x256 .f32) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .fp8e4m3) (harg23 : arg23.IsWhole) (arg24 : Memref sig .tc .vmem S1x64 .f32) (harg24 : arg24.IsWhole) (arg25 : Memref sig .tc .vmem S10000x64 .f32) (harg25 : arg25.IsWhole) (arg26 : Memref sig .tc .vmem S1000x10000 .fp8e4m3) (harg26 : arg26.IsWhole) (arg27 : Memref sig .tc .vmem S1000x64 .f32) (harg27 : arg27.IsWhole)
    (x3 : Vec F S1000x1 .f32) (x5 : Vec F S1000x64 .f32) (x12 : Vec F S1x64 .f32) (x13 : Vec F S192x256 .f32) (x14 : Vec F S1x256 .f32) (x15 : Vec F S256x64 .f32) (x16 : Vec F S1x64 .f32) (x17 : Vec F S64x13 .f32) (x18 : Vec F S1x13 .f32) (x19 : Vec F S1000x13 .f32) (x20 : Vec F S1000x256 .f32) (x21 : Vec F S10000x64 .f32) (x23 : Vec F S10000x64 .fp8e4m3) (x24 : Vec F S1x64 .f32) (x25 : Vec F S10000x64 .f32) (x26 : Vec F S1000x10000 .fp8e4m3) (x27 : Vec F S1000x64 .f32) (E : Set ℕ) (K : PUnit → sProp 𝕄) :
    iprop(owns (c : Thread nD τ) arg3 fullShare x3 ∗ owns (c : Thread nD τ) arg5 fullShare x5 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27
        ∗ (iprop(owns (c : Thread nD τ) arg3 fullShare x3 ∗ owns (c : Thread nD τ) arg5 fullShare x5 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (k2_pay8 (k2_pay10 (k2_pay11 x3) (VecWindow.window x25 ![1000 * (i 1).val, 0] S1000x64.size (rows_inb i)) (k2_pay24 x21) (k2_pay2 x26 (k2_pay25 x21)) x12 x5 x13 x14 x15 x16) x17 x18) ∗ owns (c : Thread nD τ) arg20 fullShare (k2_pay9 (k2_pay11 x3) (VecWindow.window x25 ![1000 * (i 1).val, 0] S1000x64.size (rows_inb i)) (k2_pay24 x21) (k2_pay2 x26 (k2_pay25 x21)) x12 x5 x13 x14) ∗ owns (c : Thread nD τ) arg21 fullShare x21 ∗ owns (c : Thread nD τ) arg23 fullShare (k2_pay25 x21) ∗ owns (c : Thread nD τ) arg24 fullShare (k2_pay24 x21) ∗ owns (c : Thread nD τ) arg25 fullShare x25 ∗ owns (c : Thread nD τ) arg26 fullShare x26 ∗ owns (c : Thread nD τ) arg27 fullShare (k2_pay2 x26 (k2_pay25 x21))) -∗ K ⟨⟩))
      ⊢ wp frame (wpE (defs₀ (F := F)) 𝒱₀ c none) E (cc2__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h1 : ¬ (k2_cond1 i = 1#1) := by rw [cond1_iff]; omega
  have h2 : ¬ first 0#32 i := by rw [first0_iff]; omega
  have h3 : ¬ first 1#32 i := by rw [first1_iff]; omega
  have h4 : ¬ first 2#32 i := by rw [first2_iff]; omega
  have h5 : first 3#32 i := by rw [first3_iff]; omega
  have h6 : ¬ handed i := by rw [handed_iff]; omega
  have h7 : (k2_cond7 i = 1#1) := by rw [cond7_iff]; omega
  have h8 : ¬ (k2_cond8 i = 1#1) := by rw [cond8_iff]; omega
  have h9 : ¬ (k2_cond9 i = 1#1) := by rw [cond9_iff]; omega
  have h10 : ¬ (k2_cond10 i = 1#1) := by rw [cond10_iff]; omega
  have h11 : (k2_cond11 i = 1#1) := by rw [cond11_iff]; omega
  simp only [cc2__main_body_eq_skeleton]; unfold cc2__main_body_skel
  simp only [k2_part1_eq_skeleton, k2_part2_eq_skeleton]; unfold k2_part2_skel k2_part1_skel
  unfold owns
  iintro ⟨⟨%f3, %hf3, H3⟩, ⟨%f5, %hf5, H5⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f23, %hf23, H23⟩, ⟨%f24, %hf24, H24⟩, ⟨%f25, %hf25, H25⟩, ⟨%f26, %hf26, H26⟩, ⟨%f27, %hf27, H27⟩, Hk⟩
  obtain rfl := harg3.eq_unread hf3
  obtain rfl := harg5.eq_unread hf5
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg21.eq_unread hf21
  obtain rfl := harg23.eq_unread hf23
  obtain rfl := harg24.eq_unread hf24
  obtain rfl := harg25.eq_unread hf25
  obtain rfl := harg26.eq_unread hf26
  obtain rfl := harg27.eq_unread hf27
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H3]
  · iexists _; isplitr
    swap; · iexact H3
    ipureintro
    exact harg3.read_unread _
  isplitl [H5]
  · iexists _; isplitr
    swap; · iexact H5
    ipureintro
    exact harg5.read_unread _
  isplitl [H12]
  · iexists _; isplitr
    swap; · iexact H12
    ipureintro
    exact harg12.read_unread _
  isplitl [H13]
  · iexists _; isplitr
    swap; · iexact H13
    ipureintro
    exact harg13.read_unread _
  isplitl [H14]
  · iexists _; isplitr
    swap; · iexact H14
    ipureintro
    exact harg14.read_unread _
  isplitl [H15]
  · iexists _; isplitr
    swap; · iexact H15
    ipureintro
    exact harg15.read_unread _
  isplitl [H16]
  · iexists _; isplitr
    swap; · iexact H16
    ipureintro
    exact harg16.read_unread _
  isplitl [H17]
  · iexists _; isplitr
    swap; · iexact H17
    ipureintro
    exact harg17.read_unread _
  isplitl [H18]
  · iexists _; isplitr
    swap; · iexact H18
    ipureintro
    exact harg18.read_unread _
  isplitl [H19]
  · iexists _; isplitr
    swap; · iexact H19
    ipureintro
    sl_unfold_run_names
    rw [View.read_writes_full]
    rw [load_rows _ _ _ (k2_off6_eq i)]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H20]
  · iexists _; isplitr
    swap; · iexact H20
    ipureintro
    sl_unfold_run_names
    rw [View.read_writes_full]
    rw [load_rows _ _ _ (k2_off6_eq i)]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H21]
  · iexists _; isplitr
    swap; · iexact H21
    ipureintro
    exact harg21.read_unread _
  isplitl [H23]
  · iexists _; isplitr
    swap; · iexact H23
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H24]
  · iexists _; isplitr
    swap; · iexact H24
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H25]
  · iexists _; isplitr
    swap; · iexact H25
    ipureintro
    exact harg25.read_unread _
  isplitl [H26]
  · iexists _; isplitr
    swap; · iexact H26
    ipureintro
    exact harg26.read_unread _
  · iexists _; isplitr
    swap; · iexact H27
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]

set_option maxHeartbeats 4000000 in
/-- Phase 3, a later point. -/
theorem run3_later (𝒱₀ : Variants) (c : Dev nD) (i : grid2.Coords) (hk : (i 0).val = 3) (hi : (i 1).val ≠ 0)
    (arg2 : Memref sig .tc .vmem S1000x10000 .fp8e4m3) (harg2 : arg2.IsWhole) (arg3 : Memref sig .tc .vmem S1000x1 .f32) (harg3 : arg3.IsWhole) (arg4 : Memref sig .tc .vmem S10000x64 .f32) (harg4 : arg4.IsWhole) (arg5 : Memref sig .tc .vmem S1000x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S192x256 .f32) (harg13 : arg13.IsWhole) (arg14 : Memref sig .tc .vmem S1x256 .f32) (harg14 : arg14.IsWhole) (arg15 : Memref sig .tc .vmem S256x64 .f32) (harg15 : arg15.IsWhole) (arg16 : Memref sig .tc .vmem S1x64 .f32) (harg16 : arg16.IsWhole) (arg17 : Memref sig .tc .vmem S64x13 .f32) (harg17 : arg17.IsWhole) (arg18 : Memref sig .tc .vmem S1x13 .f32) (harg18 : arg18.IsWhole) (arg19 : Memref sig .tc .vmem S1000x13 .f32) (harg19 : arg19.IsWhole) (arg20 : Memref sig .tc .vmem S1000x256 .f32) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .fp8e4m3) (harg23 : arg23.IsWhole) (arg24 : Memref sig .tc .vmem S1x64 .f32) (harg24 : arg24.IsWhole) (arg25 : Memref sig .tc .vmem S10000x64 .f32) (harg25 : arg25.IsWhole) (arg26 : Memref sig .tc .vmem S1000x10000 .fp8e4m3) (harg26 : arg26.IsWhole) (arg27 : Memref sig .tc .vmem S1000x64 .f32) (harg27 : arg27.IsWhole)
    (x2 : Vec F S1000x10000 .fp8e4m3) (x3 : Vec F S1000x1 .f32) (x5 : Vec F S1000x64 .f32) (x12 : Vec F S1x64 .f32) (x13 : Vec F S192x256 .f32) (x14 : Vec F S1x256 .f32) (x15 : Vec F S256x64 .f32) (x16 : Vec F S1x64 .f32) (x17 : Vec F S64x13 .f32) (x18 : Vec F S1x13 .f32) (x19 : Vec F S1000x13 .f32) (x20 : Vec F S1000x256 .f32) (x23 : Vec F S10000x64 .fp8e4m3) (x24 : Vec F S1x64 .f32) (x25 : Vec F S10000x64 .f32) (x27 : Vec F S1000x64 .f32) (E : Set ℕ) (K : PUnit → sProp 𝕄) :
    iprop(owns (c : Thread nD τ) arg2 fullShare x2 ∗ owns (c : Thread nD τ) arg3 fullShare x3 ∗ owns (c : Thread nD τ) arg5 fullShare x5 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg23 fullShare x23 ∗ owns (c : Thread nD τ) arg24 fullShare x24 ∗ owns (c : Thread nD τ) arg25 fullShare x25 ∗ owns (c : Thread nD τ) arg27 fullShare x27
        ∗ (iprop(owns (c : Thread nD τ) arg2 fullShare x2 ∗ owns (c : Thread nD τ) arg3 fullShare x3 ∗ owns (c : Thread nD τ) arg5 fullShare x5 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (k2_pay8 (k2_pay10 (k2_pay11 x3) (VecWindow.window x25 ![1000 * (i 1).val, 0] S1000x64.size (rows_inb i)) x24 (k2_pay1 x2 x23) x12 x5 x13 x14 x15 x16) x17 x18) ∗ owns (c : Thread nD τ) arg20 fullShare (k2_pay9 (k2_pay11 x3) (VecWindow.window x25 ![1000 * (i 1).val, 0] S1000x64.size (rows_inb i)) x24 (k2_pay1 x2 x23) x12 x5 x13 x14) ∗ owns (c : Thread nD τ) arg23 fullShare x23 ∗ owns (c : Thread nD τ) arg24 fullShare x24 ∗ owns (c : Thread nD τ) arg25 fullShare x25 ∗ owns (c : Thread nD τ) arg27 fullShare (k2_pay1 x2 x23)) -∗ K ⟨⟩))
      ⊢ wp frame (wpE (defs₀ (F := F)) 𝒱₀ c none) E (cc2__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h1 : ¬ (k2_cond1 i = 1#1) := by rw [cond1_iff]; omega
  have h2 : ¬ first 0#32 i := by rw [first0_iff]; omega
  have h3 : ¬ first 1#32 i := by rw [first1_iff]; omega
  have h4 : ¬ first 2#32 i := by rw [first2_iff]; omega
  have h5 : ¬ first 3#32 i := by rw [first3_iff]; omega
  have h6 : handed i := by rw [handed_iff]; omega
  have h7 : ¬ (k2_cond7 i = 1#1) := by rw [cond7_iff]; omega
  have h8 : ¬ (k2_cond8 i = 1#1) := by rw [cond8_iff]; omega
  have h9 : ¬ (k2_cond9 i = 1#1) := by rw [cond9_iff]; omega
  have h10 : ¬ (k2_cond10 i = 1#1) := by rw [cond10_iff]; omega
  have h11 : (k2_cond11 i = 1#1) := by rw [cond11_iff]; omega
  simp only [cc2__main_body_eq_skeleton]; unfold cc2__main_body_skel
  simp only [k2_part1_eq_skeleton, k2_part2_eq_skeleton]; unfold k2_part2_skel k2_part1_skel
  unfold owns
  iintro ⟨⟨%f2, %hf2, H2⟩, ⟨%f3, %hf3, H3⟩, ⟨%f5, %hf5, H5⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f23, %hf23, H23⟩, ⟨%f24, %hf24, H24⟩, ⟨%f25, %hf25, H25⟩, ⟨%f27, %hf27, H27⟩, Hk⟩
  obtain rfl := harg2.eq_unread hf2
  obtain rfl := harg3.eq_unread hf3
  obtain rfl := harg5.eq_unread hf5
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  obtain rfl := harg20.eq_unread hf20
  obtain rfl := harg23.eq_unread hf23
  obtain rfl := harg24.eq_unread hf24
  obtain rfl := harg25.eq_unread hf25
  obtain rfl := harg27.eq_unread hf27
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr
    swap; · iexact H2
    ipureintro
    exact harg2.read_unread _
  isplitl [H3]
  · iexists _; isplitr
    swap; · iexact H3
    ipureintro
    exact harg3.read_unread _
  isplitl [H5]
  · iexists _; isplitr
    swap; · iexact H5
    ipureintro
    exact harg5.read_unread _
  isplitl [H12]
  · iexists _; isplitr
    swap; · iexact H12
    ipureintro
    exact harg12.read_unread _
  isplitl [H13]
  · iexists _; isplitr
    swap; · iexact H13
    ipureintro
    exact harg13.read_unread _
  isplitl [H14]
  · iexists _; isplitr
    swap; · iexact H14
    ipureintro
    exact harg14.read_unread _
  isplitl [H15]
  · iexists _; isplitr
    swap; · iexact H15
    ipureintro
    exact harg15.read_unread _
  isplitl [H16]
  · iexists _; isplitr
    swap; · iexact H16
    ipureintro
    exact harg16.read_unread _
  isplitl [H17]
  · iexists _; isplitr
    swap; · iexact H17
    ipureintro
    exact harg17.read_unread _
  isplitl [H18]
  · iexists _; isplitr
    swap; · iexact H18
    ipureintro
    exact harg18.read_unread _
  isplitl [H19]
  · iexists _; isplitr
    swap; · iexact H19
    ipureintro
    sl_unfold_run_names
    rw [View.read_writes_full]
    rw [load_rows _ _ _ (k2_off6_eq i)]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H20]
  · iexists _; isplitr
    swap; · iexact H20
    ipureintro
    sl_unfold_run_names
    rw [View.read_writes_full]
    rw [load_rows _ _ _ (k2_off6_eq i)]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]
  isplitl [H23]
  · iexists _; isplitr
    swap; · iexact H23
    ipureintro
    exact harg23.read_unread _
  isplitl [H24]
  · iexists _; isplitr
    swap; · iexact H24
    ipureintro
    exact harg24.read_unread _
  isplitl [H25]
  · iexists _; isplitr
    swap; · iexact H25
    ipureintro
    exact harg25.read_unread _
  · iexists _; isplitr
    swap; · iexact H27
    ipureintro
    sl_unfold_run_names
    rw [View.read_writes_full]
    simp only [load_whole, load_stored, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread]

end Cert.KernelIdeal.Main

end
-- ==== Proof.KernelIdeal.Sound3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.Dat2
public import proofs.«01_k».proof.Proof.KernelIdeal.Body3

/-! The last call's body at the points of phase 3: the run applies, and moves what the scratch buffers hold on. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

open Cert.Rows

variable (ι : Ix)

local notation "𝕕" => dat (Ix := Ix) (U := U) (Lvl := Lvl) V D

set_option maxHeartbeats 2000000 in
/-- The body at the first point of phase 3. -/
theorem sound3_first (c : Dev nD) (t : Fin cfg2.N) (ht : t.val = 30) :
    bodyPre (U := U) (Lvl := Lvl) V D ι c t ⊢ wp frame (wpE (defs₀ (F := F)) 𝒱₀ c none) Set.univ (bodyAt2 t) (fun _ => bodyPost (U := U) (Lvl := Lvl) V D ι c t) := by
  have e0 := at0 t
  have e1 := at1 t
  have hk : (grid2.coords t 0).val = 3 := by omega
  have hi : (grid2.coords t 1).val = 0 := by omega
  unfold bodyPre bodyPost bodyAt2
  simp only [before0, before1, before2, before3, before4, before5, before6, before7, before8, before9, before10, before11, before12, before13, before14, before15, before16]
  rw [show (𝕕 c).Φ t.castSucc = phi (Ix := Ix) (U := U) (Lvl := Lvl) V c t.val from rfl,
    show (𝕕 c).Φ t.succ = phi (Ix := Ix) (U := U) (Lvl := Lvl) V c (t.val + 1) from rfl,
    show (𝕕 c).owesAt ι t.succ = (𝕕 c).owesAt ι t.castSucc from rfl,
    after0, after1, after2, after3, after4, after5, after6, after7, after8, after9, after10, after11, after12, after13, after14, after15, after16, left17_live V D c t (by omega), left18_live V D c t (by omega)]
  unfold phi
  iintro ⟨⟨%S, %hS, H21, H22, H23, H24, H25, H26, H27, Hoth, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩⟩
  have ha : S.a = A2 (ins V c) := hS.a2_all (by omega)
  have hr : S.r = k2_pay12 (rows (ins V c).x0 0) := hS.r (by omega)
  have hix : ix t = 0 := Fin.ext (by show t.val % 10 = 0; omega)
  have hw : VecWindow.window S.f ![1000 * (grid2.coords t 1).val, 0] S1000x64.size (rows_inb (grid2.coords t)) = F1b (ins V c) (ix t) := window_glue hS.f (by omega) (ix t) e1 _
  have h20 : fus (ins V c) (ix t) = k2_pay9 (k2_pay11 (blk V c 1 t)) (VecWindow.window S.f ![1000 * (grid2.coords t 1).val, 0] S1000x64.size (rows_inb (grid2.coords t))) (k2_pay24 S.a) (k2_pay2 S.r (k2_pay25 S.a)) (blk V c 10 t) (blk V c 3 t) (blk V c 11 t) (blk V c 12 t) := by
    rw [hw, blk1, blk3, blk10, blk11, blk12]; rw [ha, hr, held_prod, ← hix]; rfl
  have h19 : out (ins V c) (ix t) = k2_pay8 (k2_pay10 (k2_pay11 (blk V c 1 t)) (VecWindow.window S.f ![1000 * (grid2.coords t 1).val, 0] S1000x64.size (rows_inb (grid2.coords t))) (k2_pay24 S.a) (k2_pay2 S.r (k2_pay25 S.a)) (blk V c 10 t) (blk V c 3 t) (blk V c 11 t) (blk V c 12 t) (blk V c 13 t) (blk V c 14 t)) (blk V c 15 t) (blk V c 16 t) := by
    rw [hw, blk1, blk3, blk10, blk11, blk12, blk13, blk14, blk15, blk16]; rw [ha, hr, held_prod, ← hix]; rfl
  rw [h19, h20]
  iapply (run3_first (Ix := Ix) (U := U) (Lvl := Lvl) 𝒱₀ c (grid2.coords t) hk hi (st0 t) (st0_whole t) (st1 t) (st1_whole t) (st2 t) (st2_whole t) (st3 t) (st3_whole t) (st4 t) (st4_whole t) (st5 t) (st5_whole t) (st6 t) (st6_whole t) (st7 t) (st7_whole t) (st8 t) (st8_whole t) (st9 t) (st9_whole t) (st10 t) (st10_whole t) (st11 t) (st11_whole t) (st12 t) (st12_whole t) (st13 t) (st13_whole t) (st14 t) (st14_whole t) (st15 t) (st15_whole t) (st16 t) (st16_whole t) (st17 t) (st17_whole t) (st18 t) (st18_whole t) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (blk V c 1 t) (blk V c 3 t) (blk V c 10 t) (blk V c 11 t) (blk V c 12 t) (blk V c 13 t) (blk V c 14 t) (blk V c 15 t) (blk V c 16 t) _ _ S.a S.q S.m S.f S.r S.acc Set.univ _)
  isplitl [H3]; · iexact H3
  isplitl [H5]; · iexact H5
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H23]; · iexact H23
  isplitl [H24]; · iexact H24
  isplitl [H25]; · iexact H25
  isplitl [H26]; · iexact H26
  isplitl [H27]; · iexact H27
  iintro ⟨H3, H5, H12, H13, H14, H15, H16, H17, H18, H19, H20, H21, H23, H24, H25, H26, H27⟩
  isplitl [H21 H22 H23 H24 H25 H26 H27 Hoth Hg]
  · iexists (St.mk S.a S.b (k2_pay25 S.a) (k2_pay24 S.a) S.f S.r (k2_pay2 S.r (k2_pay25 S.a)))
    isplitr
    swap
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [Hoth]; · iexact Hoth
      iexact Hg
    ipureintro
    exact hS.step3 (by omega) _ (by rw [ha]; rfl) (by rw [ha]; rfl)
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

set_option maxHeartbeats 2000000 in
/-- The body at a later point of phase 3. -/
theorem sound3_later (c : Dev nD) (t : Fin cfg2.N) (ht : 30 < t.val ∧ t.val < 40) :
    bodyPre (U := U) (Lvl := Lvl) V D ι c t ⊢ wp frame (wpE (defs₀ (F := F)) 𝒱₀ c none) Set.univ (bodyAt2 t) (fun _ => bodyPost (U := U) (Lvl := Lvl) V D ι c t) := by
  have e0 := at0 t
  have e1 := at1 t
  have hk : (grid2.coords t 0).val = 3 := by omega
  have hi : (grid2.coords t 1).val ≠ 0 := by omega
  unfold bodyPre bodyPost bodyAt2
  simp only [before0, before1, before2, before3, before4, before5, before6, before7, before8, before9, before10, before11, before12, before13, before14, before15, before16]
  rw [show (𝕕 c).Φ t.castSucc = phi (Ix := Ix) (U := U) (Lvl := Lvl) V c t.val from rfl,
    show (𝕕 c).Φ t.succ = phi (Ix := Ix) (U := U) (Lvl := Lvl) V c (t.val + 1) from rfl,
    show (𝕕 c).owesAt ι t.succ = (𝕕 c).owesAt ι t.castSucc from rfl,
    after0, after1, after2, after3, after4, after5, after6, after7, after8, after9, after10, after11, after12, after13, after14, after15, after16, left17_live V D c t (by omega), left18_live V D c t (by omega)]
  unfold phi
  iintro ⟨⟨%S, %hS, H21, H22, H23, H24, H25, H26, H27, Hoth, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩, ⟨%d18, H20⟩⟩
  obtain ⟨hq, hm⟩ := hS.q3 (by omega)
  have hw : VecWindow.window S.f ![1000 * (grid2.coords t 1).val, 0] S1000x64.size (rows_inb (grid2.coords t)) = F1b (ins V c) (ix t) := window_glue hS.f (by omega) (ix t) e1 _
  have h20 : fus (ins V c) (ix t) = k2_pay9 (k2_pay11 (blk V c 1 t)) (VecWindow.window S.f ![1000 * (grid2.coords t 1).val, 0] S1000x64.size (rows_inb (grid2.coords t))) S.m (k2_pay1 (blk V c 0 t) S.q) (blk V c 10 t) (blk V c 3 t) (blk V c 11 t) (blk V c 12 t) := by
    rw [hw, blk1, blk3, blk10, blk11, blk12]; rw [hq, hm, blk0 V c t (by omega)]; rfl
  have h19 : out (ins V c) (ix t) = k2_pay8 (k2_pay10 (k2_pay11 (blk V c 1 t)) (VecWindow.window S.f ![1000 * (grid2.coords t 1).val, 0] S1000x64.size (rows_inb (grid2.coords t))) S.m (k2_pay1 (blk V c 0 t) S.q) (blk V c 10 t) (blk V c 3 t) (blk V c 11 t) (blk V c 12 t) (blk V c 13 t) (blk V c 14 t)) (blk V c 15 t) (blk V c 16 t) := by
    rw [hw, blk1, blk3, blk10, blk11, blk12, blk13, blk14, blk15, blk16]; rw [hq, hm, blk0 V c t (by omega)]; rfl
  rw [h19, h20]
  iapply (run3_later (Ix := Ix) (U := U) (Lvl := Lvl) 𝒱₀ c (grid2.coords t) hk hi (st0 t) (st0_whole t) (st1 t) (st1_whole t) (st2 t) (st2_whole t) (st3 t) (st3_whole t) (st4 t) (st4_whole t) (st5 t) (st5_whole t) (st6 t) (st6_whole t) (st7 t) (st7_whole t) (st8 t) (st8_whole t) (st9 t) (st9_whole t) (st10 t) (st10_whole t) (st11 t) (st11_whole t) (st12 t) (st12_whole t) (st13 t) (st13_whole t) (st14 t) (st14_whole t) (st15 t) (st15_whole t) (st16 t) (st16_whole t) (st17 t) (st17_whole t) (st18 t) (st18_whole t) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (blk V c 0 t) (blk V c 1 t) (blk V c 3 t) (blk V c 10 t) (blk V c 11 t) (blk V c 12 t) (blk V c 13 t) (blk V c 14 t) (blk V c 15 t) (blk V c 16 t) _ _ S.q S.m S.f S.acc Set.univ _)
  isplitl [H2]; · iexact H2
  isplitl [H3]; · iexact H3
  isplitl [H5]; · iexact H5
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H23]; · iexact H23
  isplitl [H24]; · iexact H24
  isplitl [H25]; · iexact H25
  isplitl [H27]; · iexact H27
  iintro ⟨H2, H3, H5, H12, H13, H14, H15, H16, H17, H18, H19, H20, H23, H24, H25, H27⟩
  isplitl [H21 H22 H23 H24 H25 H26 H27 Hoth Hg]
  · iexists (St.mk S.a S.b S.q S.m S.f S.r (k2_pay1 (blk V c 0 t) S.q))
    isplitr
    swap
    · isplitl [H21]; · iexact H21
      isplitl [H22]; · iexact H22
      isplitl [H23]; · iexact H23
      isplitl [H24]; · iexact H24
      isplitl [H25]; · iexact H25
      isplitl [H26]; · iexact H26
      isplitl [H27]; · iexact H27
      isplitl [Hoth]; · iexact Hoth
      iexact Hg
    ipureintro
    exact hS.step3 (by omega) _ hq hm
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

end Cert.KernelIdeal.Main

end
-- ==== Proof.KernelIdeal.Call2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import proofs.«01_k».proof.Proof.KernelIdeal.Sound0
public import proofs.«01_k».proof.Proof.KernelIdeal.Sound1
public import proofs.«01_k».proof.Proof.KernelIdeal.Sound2
public import proofs.«01_k».proof.Proof.KernelIdeal.Sound3

/-! The last call's body at every point, and the obligation the pipeline asks of it. -/

@[expose] public section

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

variable (ι : Ix)

local notation "𝕕" => dat (Ix := Ix) (U := U) (Lvl := Lvl) V D

theorem body_sound (c : Dev nD) (t : Fin cfg2.N) :
    bodyPre (U := U) (Lvl := Lvl) V D ι c t ⊢ wp frame (wpE (defs₀ (F := F)) 𝒱₀ c none) Set.univ (bodyAt2 t) (fun _ => bodyPost (U := U) (Lvl := Lvl) V D ι c t) := by
  have := N_lt t
  by_cases h0 : t.val = 0
  · exact sound0_first 𝒱₀ V D ι c t h0
  by_cases h1 : t.val = 10
  · exact sound1_first 𝒱₀ V D ι c t h1
  by_cases h2 : t.val = 20
  · exact sound2_first 𝒱₀ V D ι c t h2
  by_cases h3 : t.val = 30
  · exact sound3_first 𝒱₀ V D ι c t h3
  by_cases l0 : t.val < 10
  · exact sound0_later 𝒱₀ V D ι c t ⟨by omega, l0⟩
  by_cases l1 : t.val < 20
  · exact sound1_later 𝒱₀ V D ι c t ⟨by omega, l1⟩
  by_cases l2 : t.val < 30
  · exact sound2_later 𝒱₀ V D ι c t ⟨by omega, l2⟩
  exact sound3_later 𝒱₀ V D ι c t ⟨by omega, by omega⟩

theorem body_row (t : Fin cfg2.N) :
    defs₀ (F := F) .tc cfg2.body (cfg2.bodyArgs t (cfg2.slots t)) = bodyAt2 t := by
  unfold defs₀; rw [Defs.onTc_tc]

/-- The obligation the pipeline asks of the body, at every point. -/
theorem body_obligation (c : Dev nD) : BodyObligation (𝕕 c) (defs₀ (F := F)) 𝒱₀ ι Set.univ := fun t => by
  rw [bigSep_W2, bigSep_W2, body_row]
  exact triple_restated (body_sound (U := U) (Lvl := Lvl) 𝒱₀ V D ι c t) rfl .rfl fun _ => .rfl

/-- The scratch buffers and the rest are what the call is given, -/
theorem phi_start (c : Dev nD) : iprop(Pipeline.scopedRest (Ix := Ix) (Name := ℕ) (U := U) (Lvl := Lvl) (Val := Elt F) spec2 c ∗ ∃ r, prngReg c r) ⊢ phi V c 0 := by
  rw [scopedRest2_eq]
  unfold phi others
  iintro ⟨⟨O0, O1, O2, O3, O4, O5, O6, O7, O8, O9, O10, O11, O12, O13, O14, O15, ⟨%f0, S0⟩, ⟨%f1, S1⟩, ⟨%f2, S2⟩, ⟨%f3, S3⟩, ⟨%f4, S4⟩, ⟨%f5, S5⟩, ⟨%f6, S6⟩⟩, Hg⟩
  iexists (St.mk f0 f1 f2 f3 f4 f5 f6)
  isplitr
  · ipureintro; exact Inv.start _
  isplitl [S0]; · rw [owns_whole]; iexact S0
  isplitl [S1]; · rw [owns_whole]; iexact S1
  isplitl [S2]; · rw [owns_whole]; iexact S2
  isplitl [S3]; · rw [owns_whole]; iexact S3
  isplitl [S4]; · rw [owns_whole]; iexact S4
  isplitl [S5]; · rw [owns_whole]; iexact S5
  isplitl [S6]; · rw [owns_whole]; iexact S6
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  iexact O15

/-- and what it gives back. -/
theorem phi_end (c : Dev nD) (n : ℕ) : phi V c n ⊢ iprop(Pipeline.scopedRest (Ix := Ix) (Name := ℕ) (U := U) (Lvl := Lvl) (Val := Elt F) spec2 c ∗ ∃ r, prngReg c r) := by
  rw [scopedRest2_eq]
  unfold phi others
  simp only [owns_whole]
  iintro ⟨%S, %_hS, S0, S1, S2, S3, S4, S5, S6, ⟨O0, O1, O2, O3, O4, O5, O6, O7, O8, O9, O10, O11, O12, O13, O14, O15⟩, Hg⟩
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [O15]; · iexact O15
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  iexists _; iexact S6

end Cert.KernelIdeal.Main

end
-- ==== Proof.KernelIdeal.Calls.lean ====
module

public import proofs.«01_k».proof.Proof.KernelIdeal.Call0
public import proofs.«01_k».proof.Proof.KernelIdeal.Call1
public import proofs.«01_k».proof.Proof.KernelIdeal.Call2
public import proofs.«01_k».proof.Proof.Gen.KernelIdeal.Regions
public import Idealize.ShloMosaic.Lib.Pipeline.RegionArraysS
public import Idealize.ShloMosaic.Lib.Transfers

/-! The whole run: three calls among two stretches of reshapes. What each call leaves is what its blocks' values, written back one after
    another, make of the arrays it was entered with; the run ends with every buffer at the contents this fixes. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

/-- The calls' own resources beside a spare component. -/
abbrev UU : Type := UR sig nD τ × Counters

local notation "𝕄" => MT nD τ sig Unit (Elt F) ℕ UU ℕ

/-- The calls' resources are the left component. -/
abbrev EP : Emb (UR sig nD τ) (MT nD τ sig Unit (Elt F) ℕ UU ℕ) := embL

variable (m : (ℓ : Loc nD τ sig) → Buf (Elt F) ℓ) (ρ : Dev nD → PrngReg)

/-- A valuation of the buffers as contents core by core. -/
abbrev asBufs (V : Dev nD → Valuation τ sig (Elt F)) : (c : Dev nD) → (b : Ref sig .tc) → Buf (Elt F) ((c : Thread nD τ).loc b) :=
  fun c b => V c (Proc.devRef .tc b)

/-! ## What the calls leave -/

/-- The first call's data, entered with the launch's contents. -/
def d0 (c : Dev nD) : Dat τ (Elt F) Unit ℕ UU ℕ cfg0 c := Call0.dat (asBufs (V0 m)) 0 c

/-- The contents after the first call. -/
def outsA : Outs (F := F) := fun _ r c => Pipeline.afterRegion (d0 m c) (V0 m c) (Proc.devRef .tc r)

/-- The second call's data, entered with what the first call and the reshape left. -/
def d1 (c : Dev nD) : Dat τ (Elt F) Unit ℕ UU ℕ cfg1 c := Call1.dat (asBufs (V2 m (outsA m))) 0 c

/-- The contents after the first two calls. -/
def outsB : Outs (F := F) := fun J r c =>
  if J = 1 then outsA m J r c else Pipeline.afterRegion (d1 m c) (V2 m (outsA m) c) (Proc.devRef .tc r)

/-- The third call's data, entered with what the second call and the reshapes left. -/
def d2 (c : Dev nD) : Dat τ (Elt F) Unit ℕ UU ℕ cfg2 c := Main.dat (asBufs (V4 m (outsB m))) 0 c

/-- The contents after each call. -/
def outs : Outs (F := F) := fun J r c =>
  if J = 1 then outsA m J r c else if J = 3 then outsB m J r c else Pipeline.afterRegion (d2 m c) (V4 m (outsB m) c) (Proc.devRef .tc r)

theorem outs_one (r : Ref sig .tc) (c : Dev nD) : outs m 1 r c = Pipeline.afterRegion (d0 m c) (V0 m c) (Proc.devRef .tc r) := rfl
theorem outsB_one (r : Ref sig .tc) (c : Dev nD) : outsB m 1 r c = outsA m 1 r c := rfl
theorem outsB_three (r : Ref sig .tc) (c : Dev nD) : outsB m 3 r c = Pipeline.afterRegion (d1 m c) (V2 m (outsA m) c) (Proc.devRef .tc r) := rfl
theorem outs_three (r : Ref sig .tc) (c : Dev nD) : outs m 3 r c = outsB m 3 r c := rfl
theorem outs_five (r : Ref sig .tc) (c : Dev nD) : outs m 5 r c = Pipeline.afterRegion (d2 m c) (V4 m (outsB m) c) (Proc.devRef .tc r) := rfl

/-- The second call is entered with the same contents whichever stage of the definition is read. -/
theorem V2_outs (c : Dev nD) : V2 m (outs m) c = V2 m (outsA m) c := by
  unfold V2 V1; rw [show outs m 1 main_v0 c = outsA m 1 main_v0 c from rfl]
theorem V2_outsB (c : Dev nD) : V2 m (outsB m) c = V2 m (outsA m) c := by
  unfold V2 V1; rw [show outsB m 1 main_v0 c = outsA m 1 main_v0 c from rfl]
/-- And so is the third. -/
theorem V4_outs (c : Dev nD) : V4 m (outs m) c = V4 m (outsB m) c := by
  unfold V4 V3; rw [V2_outs, V2_outsB, outs_three, outs_three, outs_three, outs_three]

/-- The data of the three calls. -/
def pdats : (p : Fin 3) → (c : Dev nD) → Dat τ (Elt F) Unit ℕ UU ℕ (cfgs p) c
  | ⟨0, _⟩ => d0 m
  | ⟨1, _⟩ => d1 m
  | ⟨2, _⟩ => d2 m

/-- Every array is held whole. -/
theorem share_full {cfg : Cfg sig Λ₀} {c : Dev nD} (dat : Dat τ (Elt F) Unit ℕ UU ℕ cfg c) (hq : ∀ w, dat.q w = fullShare) (w : Fin cfg.W) :
    dat.share w = fullShare := by
  unfold Dat.share
  rw [hq]
  exact ite_self _

/-! ## The records of the three calls -/

abbrev 𝒱₀ : Variants := Variants.none
/-- The one index of the cells' waits, on the cores that run the program. -/
abbrev L : GSem nD τ sig → Finset Unit := fun g => if g.1.2 = .tc then {()} else ∅
abbrev lv : GSem nD τ sig → Unit → ℕ := fun _ _ => 0

/-- What a core owes, which is nothing, and its generator's register. -/
abbrev E : Fin 4 → Dev nD → sProp 𝕄 := fun _ c =>
  iprop((∃ W, owes (c : Thread nD τ) (0 : CellTallies nD τ sig Unit) W) ∗ (∃ r, prngReg c r) ∗ BI.emp)

theorem cut (p : Fin 3) : Pipeline.LevelCut (pcfgs (F := F)) adm () L lv p (0 : Dev nD → CellTallies nD τ sig Unit) fun _ => 0 where
  hι c w s := by simp [L]
  hιb c w s := Nat.le_refl _
  hD c g i h := absurd h (by simp)

/-- The first call among the buffers outside the calls' scope. -/
def R0 : RegionSeg (pcfgs (F := F)) adm (pdats m) () defs₀ 𝒱₀ L lv 0 :=
  Pipeline.RegionSeg.ofHeldIn (pcfgs (F := F)) adm (pdats m) () defs₀ 𝒱₀ L lv 0 0 (Pipeline.ucRefs τ sig)
    (fun c => iprop(∃ r, prngReg c r)) (fun c => iprop(∃ r, prngReg c r)) launch0.toP rfl
    (fun c => (Call0.body_obligation (U := UU) (Lvl := ℕ) 𝒱₀ (asBufs (V0 m)) 0 () c).loose) (fun _ _ => rfl) (fun _ => rfl) (fun _ => share_full _ fun _ => rfl)
    (fun _ => .rfl) (fun _ => .rfl) (fun _ => 0) (cut 0) (fun _ => BI.emp) (V0 m) (fun _ _ => rfl)

/-- The second call. -/
def R1 : RegionSeg (pcfgs (F := F)) adm (pdats m) () defs₀ 𝒱₀ L lv 1 :=
  Pipeline.RegionSeg.ofHeldIn (pcfgs (F := F)) adm (pdats m) () defs₀ 𝒱₀ L lv 1 0 (Pipeline.ucRefs τ sig)
    (fun c => iprop(∃ r, prngReg c r)) (fun c => iprop(∃ r, prngReg c r)) launch1.toP rfl
    (fun c => (Call1.body_obligation (U := UU) (Lvl := ℕ) 𝒱₀ (asBufs (V2 m (outsA m))) 0 () c).loose) (fun _ _ => rfl) (fun _ => rfl) (fun _ => share_full _ fun _ => rfl)
    (fun _ => .rfl) (fun _ => .rfl) (fun _ => 0) (cut 1) (fun _ => BI.emp) (V2 m (outsA m)) (fun _ _ => rfl)

/-- The third call. -/
def R2 : RegionSeg (pcfgs (F := F)) adm (pdats m) () defs₀ 𝒱₀ L lv 2 :=
  Pipeline.RegionSeg.ofHeldIn (pcfgs (F := F)) adm (pdats m) () defs₀ 𝒱₀ L lv 2 0 (Pipeline.ucRefs τ sig)
    (fun c => iprop(∃ r, prngReg c r)) (fun c => iprop(∃ r, prngReg c r)) launch2.toP rfl
    (fun c => (Main.body_obligation (U := UU) (Lvl := ℕ) 𝒱₀ (asBufs (V4 m (outsB m))) 0 () c).loose) (fun _ _ => rfl) (fun _ => rfl) (fun _ => share_full _ fun _ => rfl)
    (fun c => Main.phi_start (asBufs (V4 m (outsB m))) c) (fun c => Main.phi_end (asBufs (V4 m (outsB m))) c _) (fun _ => 0) (cut 2) (fun _ => BI.emp) (V4 m (outsB m)) (fun _ _ => rfl)

/-! ## The contents each call leaves are the next valuation -/

theorem leave0 (c : Dev nD) : ∀ b ∈ Pipeline.ucRefs τ sig, Pipeline.afterRegion (d0 m c) (V0 m c) b = V1 m (outs m) c b := by
  intro b hb
  obtain ⟨r, -, rfl⟩ := Finset.mem_map.mp (Finset.mem_filter.mp hb).1
  by_cases h : r ∈ ([main_v0] : List (Ref sig .tc))
  · obtain rfl := List.mem_singleton.mp h
    simp only [V1, Function.update_self]
    rfl
  · refine (Pipeline.afterRegion_keeps (d0 m c) (V0 m c) winFacts0.arr_inj (fun _ => rfl) r fun w e => ?_).trans (V1_of m (outs m) c r h).symm
    subst e
    revert h
    revert w
    decide

theorem leave1 (c : Dev nD) : ∀ b ∈ Pipeline.ucRefs τ sig, Pipeline.afterRegion (d1 m c) (V2 m (outsA m) c) b = V3 m (outs m) c b := by
  intro b hb
  obtain ⟨r, -, rfl⟩ := Finset.mem_map.mp (Finset.mem_filter.mp hb).1
  by_cases h : r ∈ ([main_v2_0, main_v2_1, main_v2_2, main_v2_3] : List (Ref sig .tc))
  · fin_cases h
    · simp only [V3, Function.update_of_ne (StableHlo.devRef_ne_of_ne (by decide) : (Proc.devRef .tc main_v2_0 : DevRef τ sig) ≠ Proc.devRef .tc main_v2_1), Function.update_of_ne (StableHlo.devRef_ne_of_ne (by decide) : (Proc.devRef .tc main_v2_0 : DevRef τ sig) ≠ Proc.devRef .tc main_v2_2), Function.update_of_ne (StableHlo.devRef_ne_of_ne (by decide) : (Proc.devRef .tc main_v2_0 : DevRef τ sig) ≠ Proc.devRef .tc main_v2_3), Function.update_self]
      rfl
    · simp only [V3, Function.update_of_ne (StableHlo.devRef_ne_of_ne (by decide) : (Proc.devRef .tc main_v2_1 : DevRef τ sig) ≠ Proc.devRef .tc main_v2_2), Function.update_of_ne (StableHlo.devRef_ne_of_ne (by decide) : (Proc.devRef .tc main_v2_1 : DevRef τ sig) ≠ Proc.devRef .tc main_v2_3), Function.update_self]
      rfl
    · simp only [V3, Function.update_of_ne (StableHlo.devRef_ne_of_ne (by decide) : (Proc.devRef .tc main_v2_2 : DevRef τ sig) ≠ Proc.devRef .tc main_v2_3), Function.update_self]
      rfl
    · simp only [V3, Function.update_self]
      rfl
  · refine (Pipeline.afterRegion_keeps (d1 m c) (V2 m (outsA m) c) winFacts1.arr_inj (fun _ => rfl) r fun w e => ?_).trans
      ((V3_of m (outs m) c r h).trans (congrFun (V2_outs m c) _)).symm
    subst e
    revert h
    revert w
    decide

theorem leave2 (c : Dev nD) : ∀ b ∈ Pipeline.ucRefs τ sig, Pipeline.afterRegion (d2 m c) (V4 m (outsB m) c) b = V5 m (outs m) c b := by
  intro b hb
  obtain ⟨r, -, rfl⟩ := Finset.mem_map.mp (Finset.mem_filter.mp hb).1
  by_cases h : r ∈ ([main_v10_0, main_v10_1] : List (Ref sig .tc))
  · fin_cases h
    · simp only [V5, Function.update_of_ne (StableHlo.devRef_ne_of_ne (by decide) : (Proc.devRef .tc main_v10_0 : DevRef τ sig) ≠ Proc.devRef .tc main_v10_1), Function.update_self]
      rfl
    · simp only [V5, Function.update_self]
      rfl
  · refine (Pipeline.afterRegion_keeps (d2 m c) (V4 m (outsB m) c) winFacts2.arr_inj (fun _ => rfl) r fun w e => ?_).trans
      ((V5_of m (outs m) c r h).trans (congrFun (V4_outs m c) _)).symm
    subst e
    revert h
    revert w
    decide

end Cert.KernelIdeal.Run

end
-- ==== Proof.KernelIdeal.Run.lean ====
module

public import proofs.«01_k».proof.Proof.KernelIdeal.Calls
public import proofs.«01_k».proof.Proof.KernelIdeal.Call0
public import proofs.«01_k».proof.Proof.KernelIdeal.Call1
public import proofs.«01_k».proof.Proof.KernelIdeal.Call2
public import proofs.«01_k».proof.Proof.Gen.KernelIdeal.Regions
public import Idealize.ShloMosaic.Lib.Pipeline.RegionArraysS
public import Idealize.ShloMosaic.Lib.Transfers

/-! The whole run: each call's record is entered from and left at the contents that the next stretch expects, and the launch starts the first. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Each call entered from and left at the valuations -/

theorem sub0 : Pipeline.arrRefs (τ := τ) ((pcfgs (F := F)) 0).spec ⊆ Pipeline.ucRefs τ sig :=
  Pipeline.arrRefs_sub_ucRefs ((pcfgs (F := F)) 0).spec launch0.win.arr_unscoped
theorem sub1 : Pipeline.arrRefs (τ := τ) ((pcfgs (F := F)) 1).spec ⊆ Pipeline.ucRefs τ sig :=
  Pipeline.arrRefs_sub_ucRefs ((pcfgs (F := F)) 1).spec launch1.win.arr_unscoped
theorem sub2 : Pipeline.arrRefs (τ := τ) ((pcfgs (F := F)) 2).spec ⊆ Pipeline.ucRefs τ sig :=
  Pipeline.arrRefs_sub_ucRefs ((pcfgs (F := F)) 2).spec launch2.win.arr_unscoped

set_option maxHeartbeats 2000000 in
theorem pre0 (c : Dev nD) : iprop(StableHlo.held (c : Thread nD τ) (Pipeline.ucRefs τ sig) (V0 m c) ∗ E 0 c) ⊢ (R0 m).pre c := by
  unfold R0
  exact Pipeline.RegionSeg.ofHeldIn_pre (pcs := pcfgs (F := F)) (a := adm) (pdats := pdats m) (ι := ()) (defs₀ := defs₀) (𝒱₀ := 𝒱₀) (L := L) (lv := lv) (p := 0) (D := 0)
    (X := fun c => iprop(∃ r, prngReg c r)) (Y := fun c => iprop(∃ r, prngReg c r)) (R := fun _ => BI.emp) (W := V0 m) sub0 c
theorem held_eq (V V' : Valuation τ sig (Elt F)) (c : Dev nD) (h : ∀ b ∈ Pipeline.ucRefs τ sig, V b = V' b) :
    (StableHlo.held (c : Thread nD τ) (Pipeline.ucRefs τ sig) V : sProp 𝕄) = StableHlo.held (c : Thread nD τ) (Pipeline.ucRefs τ sig) V' :=
  StableHlo.held_congr (c : Thread nD τ) h

theorem held0 (c : Dev nD) : (StableHlo.held (c : Thread nD τ) (Pipeline.ucRefs τ sig) (Pipeline.afterRegion (d0 m c) (V0 m c)) : sProp 𝕄)
    = StableHlo.held (c : Thread nD τ) (Pipeline.ucRefs τ sig) (V1 m (outs m) c) :=
  held_eq _ _ c (leave0 m c)
set_option maxHeartbeats 2000000 in
theorem post0 (c : Dev nD) : (R0 m).post c ⊢ iprop(StableHlo.held (c : Thread nD τ) (Pipeline.ucRefs τ sig) (V1 m (outs m) c) ∗ E 1 c) := by
  rw [← held0]
  unfold R0
  exact Pipeline.RegionSeg.ofHeldIn_post (pcs := pcfgs (F := F)) (a := adm) (pdats := pdats m) (ι := ()) (defs₀ := defs₀) (𝒱₀ := 𝒱₀) (L := L) (lv := lv) (p := 0) (D := 0)
    (X := fun c => iprop(∃ r, prngReg c r)) (Y := fun c => iprop(∃ r, prngReg c r)) (R := fun _ => BI.emp) (W := V0 m) sub0 c
set_option maxHeartbeats 2000000 in
theorem pre1 (c : Dev nD) : iprop(StableHlo.held (c : Thread nD τ) (Pipeline.ucRefs τ sig) (V2 m (outs m) c) ∗ E 1 c) ⊢ (R1 m).pre c := by
  rw [V2_outs]
  unfold R1
  exact Pipeline.RegionSeg.ofHeldIn_pre (pcs := pcfgs (F := F)) (a := adm) (pdats := pdats m) (ι := ()) (defs₀ := defs₀) (𝒱₀ := 𝒱₀) (L := L) (lv := lv) (p := 1) (D := 0)
    (X := fun c => iprop(∃ r, prngReg c r)) (Y := fun c => iprop(∃ r, prngReg c r)) (R := fun _ => BI.emp) (W := V2 m (outsA m)) sub1 c
theorem held1 (c : Dev nD) : (StableHlo.held (c : Thread nD τ) (Pipeline.ucRefs τ sig) (Pipeline.afterRegion (d1 m c) (V2 m (outsA m) c)) : sProp 𝕄)
    = StableHlo.held (c : Thread nD τ) (Pipeline.ucRefs τ sig) (V3 m (outs m) c) :=
  held_eq _ _ c (leave1 m c)
set_option maxHeartbeats 2000000 in
theorem post1 (c : Dev nD) : (R1 m).post c ⊢ iprop(StableHlo.held (c : Thread nD τ) (Pipeline.ucRefs τ sig) (V3 m (outs m) c) ∗ E 2 c) := by
  rw [← held1]
  unfold R1
  exact Pipeline.RegionSeg.ofHeldIn_post (pcs := pcfgs (F := F)) (a := adm) (pdats := pdats m) (ι := ()) (defs₀ := defs₀) (𝒱₀ := 𝒱₀) (L := L) (lv := lv) (p := 1) (D := 0)
    (X := fun c => iprop(∃ r, prngReg c r)) (Y := fun c => iprop(∃ r, prngReg c r)) (R := fun _ => BI.emp) (W := V2 m (outsA m)) sub1 c
set_option maxHeartbeats 2000000 in
theorem pre2 (c : Dev nD) : iprop(StableHlo.held (c : Thread nD τ) (Pipeline.ucRefs τ sig) (V4 m (outs m) c) ∗ E 2 c) ⊢ (R2 m).pre c := by
  rw [V4_outs]
  unfold R2
  exact Pipeline.RegionSeg.ofHeldIn_pre (pcs := pcfgs (F := F)) (a := adm) (pdats := pdats m) (ι := ()) (defs₀ := defs₀) (𝒱₀ := 𝒱₀) (L := L) (lv := lv) (p := 2) (D := 0)
    (X := fun c => iprop(∃ r, prngReg c r)) (Y := fun c => iprop(∃ r, prngReg c r)) (R := fun _ => BI.emp) (W := V4 m (outsB m)) sub2 c
theorem held2 (c : Dev nD) : (StableHlo.held (c : Thread nD τ) (Pipeline.ucRefs τ sig) (Pipeline.afterRegion (d2 m c) (V4 m (outsB m) c)) : sProp 𝕄)
    = StableHlo.held (c : Thread nD τ) (Pipeline.ucRefs τ sig) (V5 m (outs m) c) :=
  held_eq _ _ c (leave2 m c)
set_option maxHeartbeats 2000000 in
theorem post2 (c : Dev nD) : (R2 m).post c ⊢ iprop(StableHlo.held (c : Thread nD τ) (Pipeline.ucRefs τ sig) (V5 m (outs m) c) ∗ E 3 c) := by
  rw [← held2]
  unfold R2
  exact Pipeline.RegionSeg.ofHeldIn_post (pcs := pcfgs (F := F)) (a := adm) (pdats := pdats m) (ι := ()) (defs₀ := defs₀) (𝒱₀ := 𝒱₀) (L := L) (lv := lv) (p := 2) (D := 0)
    (X := fun c => iprop(∃ r, prngReg c r)) (Y := fun c => iprop(∃ r, prngReg c r)) (R := fun _ => BI.emp) (W := V4 m (outsB m)) sub2 c

/-- The launch's resources: the calls' own, and nothing in the spare component. -/
def u₀ : UU := (initOf (Pipeline.cells cfgs cellOf_inj) (Pipeline.launchToks cfgs cellOf_inj), 1)

/-- The launch deals the calls their own resources and each core nothing more. -/
theorem launched : (ownU u₀ : sProp 𝕄)
    ⊢ |={Set.univ}=> iprop(BI.own ((EP (F := F)) (initOf (Pipeline.cells cfgs cellOf_inj) (Pipeline.launchToks cfgs cellOf_inj))) ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

set_option backward.isDefEq.respectTransparency.types false in
/-- Every run of the program ends, with every counter at zero and every buffer outside the calls' scope at its last contents. -/
theorem ends : θ_run defs (onTc (τ := τ) (main (F := F))) ⟨m, fun _ => 0, ρ⟩ (fun r =>
    (∀ c : Dev nD, ∀ b ∈ Pipeline.ucRefs τ sig, r.2.mem (c, b) = V5 m (outs m) c b) ∧ r.2.sem = fun _ => 0) := by
  refine Pipeline.θ_run_regions_kit_dev_sems (pcfgs (F := F)) adm (pdats m) () cellOf_inj EP defs₀ 𝒱₀ L lv m ρ main
    (segs m (outs m) 𝒱₀ L lv E () (pdats m) (R0 m) (R1 m) (R2 m))
    (fun c Q => by
      rewrite [main_chain c, Seg.run_eq_chain,
        show (segs m (outs m) 𝒱₀ L lv E () (pdats m) (R0 m) (R1 m) (R2 m) c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Seg.pipes_host, Seg.pipes_region, Seg.pipes_nil]; decide) (0 : Dev nD → CellTallies nD τ sig Unit)
    (fun g h => if_neg h) (fun _ => BI.emp) u₀ launched
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨pre0 m c, post0 m c, pre1 m c, post1 m c, pre2 m c, (post2 m c).trans (sep_mono .rfl ?_)⟩)
    (hinit := Pipeline.initEach L lv fun c => ?_)
    (QY := fun c s => ∀ b ∈ Pipeline.ucRefs τ sig, s.mem (c, b) = V5 m (outs m) c b)
    (hfin := fun c s' => ?_) (hQ := fun _ h hz => ⟨h, funext fun g => hz g (.inr (regions_no_unscoped g.2))⟩)
  · iintro ⟨HO, -⟩
    iexact HO
  · rw [← Pipeline.unscopedBufs_held (Ix := Unit) (Name := ℕ) (U := UU) (Lvl := ℕ) c (V0 m c)]
    iintro ⟨⟨Hh, -, HO, -, Hg, -⟩, -⟩
    imodintro
    isplitl [Hh]; · iexact Hh
    isplitl [HO]; · iexists ∅; iexact HO
    isplitl [Hg]; · iexists (ρ c); iexact Hg
    iempintro
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    · iexact HSI

/-- A buffer outside the calls' scope, named as the program names it. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

end Cert.KernelIdeal.Run

end
-- ==== Proof.KernelIdeal.Frame.lean ====
module

public import proofs.«01_k».proof.Defs
public import proofs.«01_k».proof.Proof.KernelIdeal.Run

/-! The frame: after the run every argument is as it was and every counter is zero. -/

@[expose] public section

set_option maxRecDepth 16384

noncomputable section

namespace Cert.KernelIdeal.Run

open Cert.KernelIdeal Cert.KernelIdeal.Gen
open Idealize.ShloMosaic Idealize.ShloMosaic.TcCoe Idealize.SL.Sem

theorem frame : Cert.quiescent_KernelIdeal := fun m g _ =>
  (θ_run defs _ _).mono (fun r h => ⟨fun c => ⟨(h.1 c _ (mem_uc main_arg0 (by decide))).trans (Gen.V5_main_arg0 m (outs m) c),
    (h.1 c _ (mem_uc main_arg1 (by decide))).trans (Gen.V5_main_arg1 m (outs m) c),
    (h.1 c _ (mem_uc main_arg2 (by decide))).trans (Gen.V5_main_arg2 m (outs m) c),
    (h.1 c _ (mem_uc main_arg3 (by decide))).trans (Gen.V5_main_arg3 m (outs m) c),
    (h.1 c _ (mem_uc main_arg4 (by decide))).trans (Gen.V5_main_arg4 m (outs m) c),
    (h.1 c _ (mem_uc main_arg5 (by decide))).trans (Gen.V5_main_arg5 m (outs m) c),
    (h.1 c _ (mem_uc main_arg6 (by decide))).trans (Gen.V5_main_arg6 m (outs m) c),
    (h.1 c _ (mem_uc main_arg7 (by decide))).trans (Gen.V5_main_arg7 m (outs m) c),
    (h.1 c _ (mem_uc main_arg8 (by decide))).trans (Gen.V5_main_arg8 m (outs m) c),
    (h.1 c _ (mem_uc main_arg9 (by decide))).trans (Gen.V5_main_arg9 m (outs m) c),
    (h.1 c _ (mem_uc main_arg10 (by decide))).trans (Gen.V5_main_arg10 m (outs m) c),
    (h.1 c _ (mem_uc main_arg11 (by decide))).trans (Gen.V5_main_arg11 m (outs m) c),
    (h.1 c _ (mem_uc main_arg12 (by decide))).trans (Gen.V5_main_arg12 m (outs m) c),
    (h.1 c _ (mem_uc main_arg13 (by decide))).trans (Gen.V5_main_arg13 m (outs m) c),
    (h.1 c _ (mem_uc main_arg14 (by decide))).trans (Gen.V5_main_arg14 m (outs m) c),
    (h.1 c _ (mem_uc main_arg15 (by decide))).trans (Gen.V5_main_arg15 m (outs m) c),
    (h.1 c _ (mem_uc main_arg16 (by decide))).trans (Gen.V5_main_arg16 m (outs m) c),
    (h.1 c _ (mem_uc main_arg17 (by decide))).trans (Gen.V5_main_arg17 m (outs m) c)⟩, h.2⟩) (ends (F := Ideal) m g)

theorem V5_v10_0 (m : (ℓ : Loc nD τ sig) → Buf (Elt Ideal) ℓ) (c : Dev nD) :
    V5 m (outs m) c main_v10_0 = outs m 5 main_v10_0 c := by
  simp only [V5, Function.update_of_ne (StableHlo.devRef_ne_of_ne (by decide) : (Proc.devRef .tc main_v10_0 : DevRef τ sig) ≠ Proc.devRef .tc main_v10_1), Function.update_self]

theorem V5_v10_1 (m : (ℓ : Loc nD τ sig) → Buf (Elt Ideal) ℓ) (c : Dev nD) :
    V5 m (outs m) c main_v10_1 = outs m 5 main_v10_1 c := by
  simp only [V5, Function.update_of_ne (StableHlo.devRef_ne_of_ne (by decide) : (Proc.devRef .tc main_v10_0 : DevRef τ sig) ≠ Proc.devRef .tc main_v10_1), Function.update_self]

/-- The two results and the arguments after the run. -/
theorem results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10_0) = outs m 5 main_v10_0 c
      ∧ r.2.mem ((c.tc : Thread nD τ).loc main_v10_1) = outs m 5 main_v10_1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h.1 c _ (mem_uc main_v10_0 (by decide))).trans (V5_v10_0 m c),
    (h.1 c _ (mem_uc main_v10_1 (by decide))).trans (V5_v10_1 m c),
    (h.1 c _ (mem_uc main_arg0 (by decide))).trans (Gen.V5_main_arg0 m (outs m) c),
    (h.1 c _ (mem_uc main_arg1 (by decide))).trans (Gen.V5_main_arg1 m (outs m) c),
    (h.1 c _ (mem_uc main_arg2 (by decide))).trans (Gen.V5_main_arg2 m (outs m) c),
    (h.1 c _ (mem_uc main_arg3 (by decide))).trans (Gen.V5_main_arg3 m (outs m) c),
    (h.1 c _ (mem_uc main_arg4 (by decide))).trans (Gen.V5_main_arg4 m (outs m) c),
    (h.1 c _ (mem_uc main_arg5 (by decide))).trans (Gen.V5_main_arg5 m (outs m) c),
    (h.1 c _ (mem_uc main_arg6 (by decide))).trans (Gen.V5_main_arg6 m (outs m) c),
    (h.1 c _ (mem_uc main_arg7 (by decide))).trans (Gen.V5_main_arg7 m (outs m) c),
    (h.1 c _ (mem_uc main_arg8 (by decide))).trans (Gen.V5_main_arg8 m (outs m) c),
    (h.1 c _ (mem_uc main_arg9 (by decide))).trans (Gen.V5_main_arg9 m (outs m) c),
    (h.1 c _ (mem_uc main_arg10 (by decide))).trans (Gen.V5_main_arg10 m (outs m) c),
    (h.1 c _ (mem_uc main_arg11 (by decide))).trans (Gen.V5_main_arg11 m (outs m) c),
    (h.1 c _ (mem_uc main_arg12 (by decide))).trans (Gen.V5_main_arg12 m (outs m) c),
    (h.1 c _ (mem_uc main_arg13 (by decide))).trans (Gen.V5_main_arg13 m (outs m) c),
    (h.1 c _ (mem_uc main_arg14 (by decide))).trans (Gen.V5_main_arg14 m (outs m) c),
    (h.1 c _ (mem_uc main_arg15 (by decide))).trans (Gen.V5_main_arg15 m (outs m) c),
    (h.1 c _ (mem_uc main_arg16 (by decide))).trans (Gen.V5_main_arg16 m (outs m) c),
    (h.1 c _ (mem_uc main_arg17 (by decide))).trans (Gen.V5_main_arg17 m (outs m) c)⟩) (ends (F := Ideal) m ρ)

end Cert.KernelIdeal.Run

end
-- ==== Proof.RefFrame.lean ====
module

public import proofs.«01_k».proof.Defs
public import proofs.«01_k».proof.Proof.Gen.ReferenceIdeal.Run
public import Idealize.ShloMosaic.Lib.Quiescent

/-! The frame of the reference: after the run every argument is as it was and every counter is zero. -/

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

theorem frame : Cert.quiescent_ReferenceIdeal := fun m g _ =>
  (θ_run defs _ _).mono (fun r h => ⟨fun c => (h c).2.2, Idealize.ShloMosaic.sem_eq_zero_of_no_sems (by decide) r.2⟩) (run (F := Ideal) m g)

end Cert.ReferenceIdeal.Value

end
-- ==== Proof.Consts.lean ====
module

public import proofs.«01_k».proof.Defs

/-! The three named constants: each is the real number its name stands for. -/

@[expose] public section

set_option maxRecDepth 16384

noncomputable section

namespace Cert.Named

open Idealize.ShloMosaic

theorem preserves : Cert.preserves_Kernel_KernelIdeal :=
  ⟨IdealRules.named_const.statement Cert.KernelIdeal.κ "levels_per_unit_wide" .f32 0x45044AAB#32 ((6350 / 3 : ℝ) : EReal) rfl,
    IdealRules.named_const.statement Cert.KernelIdeal.κ "unit_per_level_wide" .f32 0x334AE96E#32 ((3 / 63500000 : ℝ) : EReal) rfl,
    IdealRules.named_const.statement Cert.KernelIdeal.κ "unit_per_level_narrow" .f32 0x31587076#32 ((1 / 317500000 : ℝ) : EReal) rfl⟩

theorem wide_up : Named.named (F := Ideal) Cert.KernelIdeal.κ "levels_per_unit_wide" (φ := .f32) 0x45044AAB#32 = ((6350 / 3 : ℝ) : EReal) :=
  IdealRules.named_const.ideal_named_scalar _ _ _ _ rfl

theorem wide_down : Named.named (F := Ideal) Cert.KernelIdeal.κ "unit_per_level_wide" (φ := .f32) 0x334AE96E#32 = ((3 / 63500000 : ℝ) : EReal) :=
  IdealRules.named_const.ideal_named_scalar _ _ _ _ rfl

theorem narrow_down : Named.named (F := Ideal) Cert.KernelIdeal.κ "unit_per_level_narrow" (φ := .f32) 0x31587076#32 = ((1 / 317500000 : ℝ) : EReal) :=
  IdealRules.named_const.ideal_named_scalar _ _ _ _ rfl

theorem narrow_up : Ideal.ofBits .f32 0x46F80C00#32 = ((31750 : ℝ) : EReal) := by
  simp [Ideal.ofBits, Ideal.ieee, -EReal.coe_mul]; norm_num

theorem ten_thousand : Ideal.ofBits .f32 0x461C4000#32 = ((10000 : ℝ) : EReal) := by
  simp [Ideal.ofBits, Ideal.ieee, -EReal.coe_mul]; norm_num

end Cert.Named

end
-- ==== Proof.Net.lean ====
module

public import Idealize.ShloMosaic.PureOps.Ideal
public import Mathlib.Data.EReal.Operations

/-! The network as matrices of extended reals, and why an aggregation may be computed from levels: on finite entries, the centred and scaled operand times the
scaled matrix, unscaled, plus the row sums times the means, is the product itself. -/

@[expose] public section

noncomputable section

namespace Cert.Net

open Idealize.ShloMosaic

/-- A matrix of extended reals. -/
abbrev Mat (r c : ℕ) : Type := Fin r → Fin c → EReal

/-- A finite number, -/
def Fin' (x : EReal) : Prop := ∃ a : ℝ, x = (a : EReal)
/-- and a matrix of finite numbers. -/
def FinM {r c : ℕ} (A : Mat r c) : Prop := ∀ i j, Fin' (A i j)

/-- The product. -/
def mm {r k c : ℕ} (A : Mat r k) (B : Mat k c) : Mat r c := fun i j => ∑ l, A i l * B l j
/-- The product with a bias added, cut off at zero, -/
def lin {r k c : ℕ} (A : Mat r k) (B : Mat k c) (b : Fin c → EReal) : Mat r c := fun i j => max (mm A B i j + b j) 0
/-- and with a residual added too. -/
def res {r k c : ℕ} (A : Mat r k) (B : Mat k c) (b : Fin c → EReal) (R : Mat r c) : Mat r c := fun i j => max (mm A B i j + b j + R i j) 0
/-- Three matrices side by side. -/
def cat {r : ℕ} (A B C : Mat r 64) : Mat r 192 := fun i x =>
  if h : x.val < 64 then A i ⟨x.val, h⟩
  else if h' : x.val - 64 < 64 then B i ⟨x.val - 64, h'⟩
  else C i ⟨x.val - 64 - 64, by have := x.isLt; omega⟩

theorem coe_sum {ι : Type} [Fintype ι] (f : ι → ℝ) : ((∑ i, f i : ℝ) : EReal) = ∑ i, (f i : EReal) :=
  map_sum (⟨⟨fun x : ℝ => (x : EReal), EReal.coe_zero⟩, EReal.coe_add⟩ : ℝ →+ EReal) f Finset.univ

theorem Fin'.add {x y : EReal} (hx : Fin' x) (hy : Fin' y) : Fin' (x + y) := by
  obtain ⟨a, rfl⟩ := hx; obtain ⟨b, rfl⟩ := hy
  exact ⟨a + b, (EReal.coe_add a b).symm⟩
theorem Fin'.mul {x y : EReal} (hx : Fin' x) (hy : Fin' y) : Fin' (x * y) := by
  obtain ⟨a, rfl⟩ := hx; obtain ⟨b, rfl⟩ := hy
  exact ⟨a * b, (EReal.coe_mul a b).symm⟩
theorem Fin'.cut {x : EReal} (hx : Fin' x) : Fin' (max x 0) := by
  obtain ⟨a, rfl⟩ := hx
  exact ⟨max a 0, (EReal.coe_strictMono.monotone.map_max (a := a) (b := 0)).symm⟩
theorem Fin'.sum {ι : Type} [Fintype ι] {f : ι → EReal} (hf : ∀ i, Fin' (f i)) : Fin' (∑ i, f i) := by
  choose g hg using hf
  exact ⟨∑ i, g i, by rw [coe_sum]; exact Finset.sum_congr rfl fun i _ => hg i⟩

theorem FinM.mm {r k c : ℕ} {A : Mat r k} {B : Mat k c} (hA : FinM A) (hB : FinM B) : FinM (mm A B) :=
  fun i j => Fin'.sum fun l => (hA i l).mul (hB l j)
theorem FinM.lin {r k c : ℕ} {A : Mat r k} {B : Mat k c} {b : Fin c → EReal} (hA : FinM A) (hB : FinM B) (hb : ∀ j, Fin' (b j)) : FinM (lin A B b) :=
  fun i j => ((hA.mm hB i j).add (hb j)).cut
theorem FinM.res {r k c : ℕ} {A : Mat r k} {B : Mat k c} {b : Fin c → EReal} {R : Mat r c} (hA : FinM A) (hB : FinM B) (hb : ∀ j, Fin' (b j))
    (hR : FinM R) : FinM (res A B b R) :=
  fun i j => (((hA.mm hB i j).add (hb j)).add (hR i j)).cut

/-- An aggregation from levels. -/
theorem levels {n : ℕ} (a p : Fin n → EReal) (ha : ∀ k, Fin' (a k)) (hp : ∀ k, Fin' (p k)) (s c d : ℝ) (hs : s ≠ 0) (h : s * c * d = 1) :
    (∑ k, a k) * Ideal.div (∑ k, p k) (s : EReal) + (∑ k, (a k * (s : EReal)) * ((p k - Ideal.div (∑ k, p k) (s : EReal)) * (c : EReal))) * (d : EReal)
      = ∑ k, a k * p k := by
  choose α hα using ha
  choose π hπ using hp
  obtain rfl : a = fun k => (α k : EReal) := funext hα
  obtain rfl : p = fun k => (π k : EReal) := funext hπ
  rw [Ideal.div_coe hs]
  simp only [← coe_sum, ← EReal.coe_mul, ← EReal.coe_sub, ← EReal.coe_add]
  congr 1
  generalize (∑ k, π k) * (1 / s) = μ
  rw [Finset.sum_mul, Finset.sum_mul, ← Finset.sum_add_distrib]
  refine Finset.sum_congr rfl fun k _ => ?_
  calc α k * μ + α k * s * ((π k - μ) * c) * d = α k * μ + α k * (π k - μ) * (s * c * d) := by ring
    _ = α k * π k := by rw [h]; ring

end Cert.Net

end
-- ==== Proof.KernelIdeal.Pay.lean ====
module

public import proofs.«01_k».proof.Proof.Gen.KernelIdeal.Skeleton
public import proofs.«01_k».proof.Proof.Consts
public import proofs.«01_k».proof.Proof.Net
public import Idealize.ShloMosaic.Lib.Pointwise

/-! What each of the kernel's payloads computes, entry by entry, on extended reals. -/

@[expose] public section

set_option maxRecDepth 16384

noncomputable section

namespace Cert.KernelIdeal.Pay

open Cert.KernelIdeal Cert.KernelIdeal.Gen Cert.Net
open Idealize.ShloMosaic

/-- An array as a matrix. -/
abbrev mat {r c : ℕ} (x : (⟨2, ![r, c]⟩ : Shape).Idx → EReal) : Mat r c := fun i j => x (ix2 i j)

/-- The mean of a column. -/
def mean (p : Mat 10000 64) (j : Fin 64) : EReal := Ideal.div (∑ k, p k j) ((10000 : ℝ) : EReal)

theorem pay0 (x : Vec Ideal S10000x128 .f32) (w : Vec Ideal S128x64 .f32) (i : Fin 10000) (j : Fin 64) :
    k0_pay1 x w (ix2 i j) = mm (mat x) (mat w) i j := by
  pointwise [k0_pay1]
  rfl

theorem scaled (x : Vec Ideal S400x10000 .f32) (i : Fin 400) (k : Fin 10000) :
    k1_pay1 x (ix2 i k) = x (ix2 i k) * ((10000 : ℝ) : EReal) := by
  pointwise [k1_pay1]
  rw [Cert.Named.ten_thousand]

theorem rowsum (x : Vec Ideal S400x10000 .f32) (i : Fin 400) (j : Fin 1) : k1_pay2 x (ix2 i j) = ∑ k, x (ix2 i k) := by
  pointwise [k1_pay2]

theorem head (x : Vec Ideal S400x10000 .f32) (p : Vec Ideal S10000x64 .f32) (b : Vec Ideal S1x64 .f32) (i : Fin 400) (j : Fin 64) :
    k1_pay3 x p b (ix2 i j) = lin (mat x) (mat p) (fun j => b (ix2 0 j)) i j := by
  pointwise [k1_pay3]
  rfl

theorem first (x : Vec Ideal S400x10000 .f32) (p : Vec Ideal S10000x64 .f32) (b : Vec Ideal S1x64 .f32) (w : Vec Ideal S64x64 .f32) (i : Fin 400) (j : Fin 64) :
    k1_pay4 x p b w (ix2 i j) = mm (lin (mat x) (mat p) (fun j => b (ix2 0 j))) (mat w) i j := by
  pointwise [k1_pay4, k1_pay3]
  rfl

theorem prod (x : Vec Ideal S1000x10000 .fp8e4m3) (q : Vec Ideal S10000x64 .fp8e4m3) (i : Fin 1000) (j : Fin 64) :
    k2_pay1 x q (ix2 i j) = ∑ k, x (ix2 i k) * q (ix2 k j) := by
  pointwise [k2_pay1]

theorem sums (x : Vec Ideal S1000x1 .f32) (i : Fin 1000) : k2_pay11 x (ix2 i 0) = x (ix2 i 0) := by
  pointwise [k2_pay11]

theorem mean0 (p : Vec Ideal S10000x64 .f32) (j : Fin 64) : k2_pay15 p (ix2 0 j) = mean (mat p) j := by
  pointwise [k2_pay15, k2_pay14, k2_pay13]
  rw [Cert.Named.ten_thousand]; rfl
theorem mean1 (p : Vec Ideal S10000x64 .f32) (j : Fin 64) : k2_pay18 p (ix2 0 j) = mean (mat p) j := by
  pointwise [k2_pay18, k2_pay17]
  rw [Cert.Named.ten_thousand]; rfl
theorem mean2 (p : Vec Ideal S10000x64 .f32) (j : Fin 64) : k2_pay21 p (ix2 0 j) = mean (mat p) j := by
  pointwise [k2_pay21, k2_pay20]
  rw [Cert.Named.ten_thousand]; rfl
theorem mean3 (p : Vec Ideal S10000x64 .f32) (j : Fin 64) : k2_pay24 p (ix2 0 j) = mean (mat p) j := by
  pointwise [k2_pay24, k2_pay23]
  rw [Cert.Named.ten_thousand]; rfl

theorem level0 (p : Vec Ideal S10000x64 .f32) (k : Fin 10000) (j : Fin 64) :
    k2_pay16 p (ix2 k j) = (p (ix2 k j) - mean (mat p) j) * ((6350 / 3 : ℝ) : EReal) := by
  pointwise [k2_pay16, k2_pay14, k2_pay13]
  rw [Cert.Named.ten_thousand, Cert.Named.wide_up]; rfl
theorem level1 (p : Vec Ideal S10000x64 .f32) (k : Fin 10000) (j : Fin 64) :
    k2_pay19 p (ix2 k j) = (p (ix2 k j) - mean (mat p) j) * ((31750 : ℝ) : EReal) := by
  pointwise [k2_pay19, k2_pay17]
  rw [Cert.Named.ten_thousand, Cert.Named.narrow_up]; rfl
theorem level2 (p : Vec Ideal S10000x64 .f32) (k : Fin 10000) (j : Fin 64) :
    k2_pay22 p (ix2 k j) = (p (ix2 k j) - mean (mat p) j) * ((6350 / 3 : ℝ) : EReal) := by
  pointwise [k2_pay22, k2_pay20]
  rw [Cert.Named.ten_thousand, Cert.Named.wide_up]; rfl
theorem level3 (p : Vec Ideal S10000x64 .f32) (k : Fin 10000) (j : Fin 64) :
    k2_pay25 p (ix2 k j) = (p (ix2 k j) - mean (mat p) j) * ((31750 : ℝ) : EReal) := by
  pointwise [k2_pay25, k2_pay23]
  rw [Cert.Named.ten_thousand, Cert.Named.narrow_up]; rfl

/-- The aggregation that a block's product, row sums and means stand for. -/
def agg (d : ℝ) (s : FVec Ideal S1000x1 .f32) (μ : Vec Ideal S1x64 .f32) (q : Vec Ideal S1000x64 .f32) (i : Fin 1000) (j : Fin 64) : EReal :=
  s (ix2 i 0) * μ (ix2 0 j) + q (ix2 i j) * (d : EReal)

theorem layer0 (s : FVec Ideal S1000x1 .f32) (μ : Vec Ideal S1x64 .f32) (q : Vec Ideal S1000x64 .f32) (b : Vec Ideal S1x64 .f32) (w : Vec Ideal S64x64 .f32)
    (i : Fin 1000) (j : Fin 64) :
    k2_pay3 s μ q b w (ix2 i j) = mm (fun i l => max (agg (3 / 63500000) s μ q i l + b (ix2 0 l)) 0) (mat w) i j := by
  pointwise [k2_pay3]
  simp only [Cert.Named.wide_down]; rfl
theorem layer2 (s : FVec Ideal S1000x1 .f32) (μ : Vec Ideal S1x64 .f32) (q : Vec Ideal S1000x64 .f32) (b : Vec Ideal S1x64 .f32) (w : Vec Ideal S64x64 .f32)
    (i : Fin 1000) (j : Fin 64) :
    k2_pay7 s μ q b w (ix2 i j) = mm (fun i l => max (agg (3 / 63500000) s μ q i l + b (ix2 0 l)) 0) (mat w) i j := by
  pointwise [k2_pay7]
  simp only [Cert.Named.wide_down]; rfl
theorem layer1 (s : FVec Ideal S1000x1 .f32) (μ : Vec Ideal S1x64 .f32) (q : Vec Ideal S1000x64 .f32) (b : Vec Ideal S1x64 .f32) (f : Vec Ideal S1000x64 .f32)
    (i : Fin 1000) (j : Fin 64) :
    k2_pay5 s μ q b f (ix2 i j) = max (agg (1 / 317500000) s μ q i j + b (ix2 0 j) + f (ix2 i j)) 0 := by
  pointwise [k2_pay5, k2_pay4]
  simp only [Cert.Named.narrow_down]; rfl
theorem layer1' (s : FVec Ideal S1000x1 .f32) (μ : Vec Ideal S1x64 .f32) (q : Vec Ideal S1000x64 .f32) (b : Vec Ideal S1x64 .f32) (f : Vec Ideal S1000x64 .f32)
    (w : Vec Ideal S64x64 .f32) (i : Fin 1000) (j : Fin 64) :
    k2_pay6 s μ q b f w (ix2 i j) = mm (fun i l => max (agg (1 / 317500000) s μ q i l + b (ix2 0 l) + f (ix2 i l)) 0) (mat w) i j := by
  pointwise [k2_pay6, k2_pay4]
  simp only [Cert.Named.narrow_down]; rfl

theorem fused (s : FVec Ideal S1000x1 .f32) (f1 : Vec Ideal S1000x64 .f32) (μ : Vec Ideal S1x64 .f32) (q : Vec Ideal S1000x64 .f32) (b : Vec Ideal S1x64 .f32)
    (f0 : Vec Ideal S1000x64 .f32) (w : Vec Ideal S192x256 .f32) (b' : Vec Ideal S1x256 .f32) (i : Fin 1000) (j : Fin 256) :
    k2_pay9 s f1 μ q b f0 w b' (ix2 i j)
      = lin (cat (mat f0) (mat f1) (fun i l => max (agg (1 / 317500000) s μ q i l + b (ix2 0 l) + f1 (ix2 i l)) 0)) (mat w) (fun j => b' (ix2 0 j)) i j := by
  pointwise [k2_pay9]
  simp only [Cert.Named.narrow_down]; rfl

theorem hidden (s : FVec Ideal S1000x1 .f32) (f1 : Vec Ideal S1000x64 .f32) (μ : Vec Ideal S1x64 .f32) (q : Vec Ideal S1000x64 .f32) (b : Vec Ideal S1x64 .f32)
    (f0 : Vec Ideal S1000x64 .f32) (w : Vec Ideal S192x256 .f32) (b' : Vec Ideal S1x256 .f32) (w' : Vec Ideal S256x64 .f32) (b'' : Vec Ideal S1x64 .f32)
    (i : Fin 1000) (j : Fin 64) :
    k2_pay10 s f1 μ q b f0 w b' w' b'' (ix2 i j) = mm (mat (k2_pay9 s f1 μ q b f0 w b')) (mat w') i j + b'' (ix2 0 j) := by
  unfold k2_pay10
  generalize k2_pay9 s f1 μ q b f0 w b' = z
  pointwise
  rfl

theorem last (h : FVec Ideal S1000x64 .f32) (w : Vec Ideal S64x13 .f32) (b : Vec Ideal S1x13 .f32) (i : Fin 1000) (j : Fin 13) :
    k2_pay8 h w b (ix2 i j) = mm (fun i l => max (h (ix2 i l)) 0) (mat w) i j + b (ix2 0 j) := by
  pointwise [k2_pay8]
  rfl

end Cert.KernelIdeal.Pay

end
-- ==== Proof.KernelIdeal.Phases.lean ====
module

public import proofs.«01_k».proof.Proof.KernelIdeal.Pay
public import proofs.«01_k».proof.Proof.KernelIdeal.State

/-! The last call's four phases, on extended reals: when the call's inputs are the scaled matrix, its row sums, the first product and the head's layer, all
finite, the blocks it leaves are the rows of the network's two results. -/

@[expose] public section

set_option maxRecDepth 16384

noncomputable section

namespace Cert.KernelIdeal.Main

open Cert.KernelIdeal Cert.KernelIdeal.Gen Cert.Net Cert.Rows
open Cert.KernelIdeal.Pay (mat mean agg)
open Idealize.ShloMosaic

/-- Row `y` of block `i`. -/
def row (i : Fin 10) (y : Fin 1000) : Fin 10000 := ⟨1000 * i.val + y.val, by omega⟩

theorem rows_at {α : Type} {n : ℕ} (x : (Long n).Idx → α) (i : Fin 10) (y : Fin 1000) (j : Fin n) : rows x i (ix2 y j) = x (ix2 (row i y) j) := by
  rw [rows_apply]
  congr 1
  funext a
  match a with
  | 0 => rfl
  | 1 => rfl

theorem glue_at {n : ℕ} {f : Fin 10 → (Block n).Idx → EReal} {G : Mat 10000 n} (h : ∀ i y j, f i (ix2 y j) = G (row i y) j) : mat (glue f) = G := by
  funext r j
  have hr := r.isLt
  refine (glue_eq f ⟨r.val / 1000, by omega⟩ (ix2 ⟨r.val % 1000, Nat.mod_lt _ (by decide)⟩ j) _ ?_ rfl).trans ((h _ _ _).trans ?_)
  · show r.val = 1000 * (r.val / 1000) + r.val % 1000; omega
  · congr 1
    apply Fin.ext
    show 1000 * (r.val / 1000) + r.val % 1000 = r.val; omega

/-- What the call is entered with. -/
structure Good (I : Ins Ideal) (A : Mat 10000 10000) : Prop where
  x0 : ∀ r k, I.x0 (ix2 r k) = A r k * ((10000 : ℝ) : EReal)
  x1 : ∀ r, I.x1 (ix2 r 0) = ∑ k, A r k
  fA : FinM A
  fx2 : FinM (mat I.x2)
  fx3 : FinM (mat I.x3)
  fx4 : ∀ j, Fin' (I.x4 (ix2 0 j))
  fx5 : FinM (mat I.x5)
  fx6 : ∀ j, Fin' (I.x6 (ix2 0 j))
  fx7 : FinM (mat I.x7)
  fx8 : ∀ j, Fin' (I.x8 (ix2 0 j))
  fx9 : FinM (mat I.x9)

variable {I : Ins Ideal} {A : Mat 10000 10000} (g : Good I A)

/-- A phase's aggregation is the product, whichever of the two scales it uses. -/
theorem Good.aggregate (g : Good I A) (p : Vec Ideal S10000x64 .f32) (hp : FinM (mat p)) {c d : ℝ} (hcd : 10000 * c * d = 1)
    (Q : Vec Ideal S10000x64 .fp8e4m3) (M : Vec Ideal S1x64 .f32) (hQ : ∀ k j, Q (ix2 k j) = (p (ix2 k j) - mean (mat p) j) * (c : EReal))
    (hM : ∀ j, M (ix2 0 j) = mean (mat p) j) (i : Fin 10) (y : Fin 1000) (j : Fin 64) :
    agg d (sums I i) M (prod I Q i) y j = mm A (mat p) (row i y) j := by
  unfold agg sums prod
  rw [Pay.sums, Pay.prod, rows_at, g.x1, hM]
  simp only [rows_at, g.x0, hQ]
  exact levels (fun k => A (row i y) k) (fun k => p (ix2 k j)) (fun k => g.fA _ k) (fun k => hp k j) 10000 c d (by norm_num) hcd

theorem wide : (10000 : ℝ) * (6350 / 3) * (3 / 63500000) = 1 := by norm_num
theorem narrow : (10000 : ℝ) * 31750 * (1 / 317500000) = 1 := by norm_num

/-! ## The network from the call's inputs -/

variable (I A)

def N0 : Mat 10000 64 := mm (lin A (mat I.x2) fun j => I.x4 (ix2 0 j)) (mat I.x5)
def NF1 : Mat 10000 64 := res A (N0 I A) (fun j => I.x6 (ix2 0 j)) (mat I.x3)
def NB : Mat 10000 64 := mm (NF1 I A) (mat I.x7)
def N2 : Mat 10000 64 := mm (lin A (NB I A) fun j => I.x8 (ix2 0 j)) (mat I.x9)
def NF2 : Mat 10000 64 := res A (N2 I A) (fun j => I.x10 (ix2 0 j)) (NF1 I A)
def Nfus : Mat 10000 256 := lin (cat (mat I.x3) (NF1 I A) (NF2 I A)) (mat I.x11) fun j => I.x12 (ix2 0 j)
def Nout : Mat 10000 13 := fun r j => mm (lin (Nfus I A) (mat I.x13) fun j => I.x14 (ix2 0 j)) (mat I.x15) r j + I.x16 (ix2 0 j)

variable {I A}

include g

theorem Good.fN0 : FinM (N0 I A) := (g.fA.lin g.fx2 g.fx4).mm g.fx5
theorem Good.fNF1 : FinM (NF1 I A) := g.fA.res g.fN0 g.fx6 g.fx3
theorem Good.fNB : FinM (NB I A) := g.fNF1.mm g.fx7
theorem Good.fN2 : FinM (N2 I A) := (g.fA.lin g.fNB g.fx8).mm g.fx9

theorem Good.a0b (i : Fin 10) (y : Fin 1000) (j : Fin 64) : A0b I i (ix2 y j) = N0 I A (row i y) j := by
  unfold A0b
  rw [Pay.layer0]
  unfold N0 mm lin
  refine Finset.sum_congr rfl fun l _ => ?_
  beta_reduce
  rw [g.aggregate I.x2 g.fx2 wide (Q0 I) (M0 I) (Pay.level0 _) (Pay.mean0 _)]

theorem Good.a0 : mat (A0 I) = N0 I A := glue_at g.a0b

theorem Good.agg1 (i : Fin 10) (y : Fin 1000) (j : Fin 64) : agg (1 / 317500000) (sums I i) (M1 I) (prod I (Q1 I) i) y j = mm A (N0 I A) (row i y) j := by
  rw [← g.a0]
  exact g.aggregate (A0 I) (by rw [g.a0]; exact g.fN0) narrow (Q1 I) (M1 I) (Pay.level1 _) (Pay.mean1 _) i y j

theorem Good.f1b (i : Fin 10) (y : Fin 1000) (j : Fin 64) : F1b I i (ix2 y j) = NF1 I A (row i y) j := by
  unfold F1b
  rw [Pay.layer1, g.agg1, rows_at]
  rfl

theorem Good.bb (i : Fin 10) (y : Fin 1000) (j : Fin 64) : Bb I i (ix2 y j) = NB I A (row i y) j := by
  unfold Bb
  rw [Pay.layer1']
  unfold NB mm
  refine Finset.sum_congr rfl fun l _ => ?_
  beta_reduce
  rw [g.agg1, rows_at]
  rfl

theorem Good.b : mat (B I) = NB I A := glue_at g.bb

theorem Good.agg2 (i : Fin 10) (y : Fin 1000) (j : Fin 64) : agg (3 / 63500000) (sums I i) (M2 I) (prod I (Q2 I) i) y j = mm A (NB I A) (row i y) j := by
  rw [← g.b]
  exact g.aggregate (B I) (by rw [g.b]; exact g.fNB) wide (Q2 I) (M2 I) (Pay.level2 _) (Pay.mean2 _) i y j

theorem Good.a2b (i : Fin 10) (y : Fin 1000) (j : Fin 64) : A2b I i (ix2 y j) = N2 I A (row i y) j := by
  unfold A2b
  rw [Pay.layer2]
  unfold N2 mm lin
  refine Finset.sum_congr rfl fun l _ => ?_
  beta_reduce
  rw [g.agg2]

theorem Good.a2 : mat (A2 I) = N2 I A := glue_at g.a2b

theorem Good.agg3 (i : Fin 10) (y : Fin 1000) (j : Fin 64) : agg (1 / 317500000) (sums I i) (M3 I) (prod I (Q3 I) i) y j = mm A (N2 I A) (row i y) j := by
  rw [← g.a2]
  exact g.aggregate (A2 I) (by rw [g.a2]; exact g.fN2) narrow (Q3 I) (M3 I) (Pay.level3 _) (Pay.mean3 _) i y j

/-- The second result's blocks, -/
theorem Good.fusion (i : Fin 10) (y : Fin 1000) (j : Fin 256) : fus I i (ix2 y j) = Nfus I A (row i y) j := by
  have e : cat (mat (rows I.x3 i)) (mat (F1b I i)) (fun y l => max (agg (1 / 317500000) (sums I i) (M3 I) (prod I (Q3 I) i) y l + I.x10 (ix2 0 l) + F1b I i (ix2 y l)) 0) y
      = cat (mat I.x3) (NF1 I A) (NF2 I A) (row i y) := by
    funext x
    unfold cat
    split_ifs
    · exact rows_at I.x3 i y _
    · exact g.f1b i y _
    · beta_reduce; rw [g.agg3, g.f1b]; rfl
  unfold fus
  rw [Pay.fused]
  unfold Nfus lin mm
  rw [e]

/-- and the first's. -/
theorem Good.output (i : Fin 10) (y : Fin 1000) (j : Fin 13) : out I i (ix2 y j) = Nout I A (row i y) j := by
  unfold out
  rw [Pay.last]
  unfold Nout
  congr 1
  unfold mm
  refine Finset.sum_congr rfl fun l _ => ?_
  beta_reduce
  rw [Pay.hidden]
  unfold lin
  congr 3
  unfold mm
  refine Finset.sum_congr rfl fun l' _ => ?_
  beta_reduce
  rw [← g.fusion]
  rfl

end Cert.KernelIdeal.Main

end
-- ==== Proof.Network.lean ====
module

public import proofs.«01_k».proof.Proof.Net

/-! The whole network, from its arrays as matrices. -/

@[expose] public section

noncomputable section

namespace Cert.Net

/-- The network's arrays. -/
structure Params where
  A : Mat 10000 10000
  x : Mat 10000 128
  w0 : Mat 128 64
  b0 : Fin 64 → EReal
  w1 : Mat 64 64
  b1 : Fin 64 → EReal
  w2 : Mat 64 64
  b2 : Fin 64 → EReal
  w3 : Mat 64 64
  b3 : Fin 64 → EReal
  w4 : Mat 64 64
  b4 : Fin 64 → EReal
  w5 : Mat 192 256
  b5 : Fin 256 → EReal
  w6 : Mat 256 64
  b6 : Fin 64 → EReal
  w7 : Mat 64 13
  b7 : Fin 13 → EReal

/-- The head's layer, -/
def Params.f0 (P : Params) : Mat 10000 64 := lin P.A (mm P.x P.w0) P.b0
/-- the first residual block, -/
def Params.f1 (P : Params) : Mat 10000 64 := res P.A (mm (lin P.A (mm P.f0 P.w1) P.b1) P.w2) P.b2 P.f0
/-- the second, -/
def Params.f2 (P : Params) : Mat 10000 64 := res P.A (mm (lin P.A (mm P.f1 P.w3) P.b3) P.w4) P.b4 P.f1
/-- the fusion of the three, -/
def Params.fus (P : Params) : Mat 10000 256 := lin (cat P.f0 P.f1 P.f2) P.w5 P.b5
/-- and the prediction. -/
def Params.out (P : Params) : Mat 10000 13 := fun r j => mm (lin P.fus P.w6 P.b6) P.w7 r j + P.b7 j

end Cert.Net

end
-- ==== Proof.KernelIdeal.Arrays.lean ====
module

public import proofs.«01_k».proof.Proof.KernelIdeal.Phases
public import proofs.«01_k».proof.Proof.KernelIdeal.Calls
public import proofs.«01_k».proof.Proof.Network
public import Idealize.ShloMosaic.Lib.Pipeline.ValueKit

/-! What the first two calls leave in their arrays, and the last call in its two. -/

@[expose] public section

set_option maxRecDepth 16384

noncomputable section

namespace Cert.KernelIdeal.Run

open Cert.KernelIdeal Cert.KernelIdeal.Gen Cert.Net
open Cert.KernelIdeal.Pay (mat)
open Idealize.ShloMosaic Idealize.ShloMosaic.TcCoe Idealize.ShloMosaic.Tactic

variable (m : (ℓ : Loc nD τ sig) → Buf (Elt Ideal) ℓ) (c : Dev nD)

/-- The first call's product. -/
theorem head_product : (d0 m c).arrAt 2 cfg0.N = k0_pay1 (m ((c : Thread nD τ).loc main_arg0)) (m ((c : Thread nD τ).loc main_arg2)) := by
  have i0 : ∀ t : Fin cfg0.N, win0_0.index t = ![0, 0] := by decide +kernel
  have i1 : ∀ t : Fin cfg0.N, win0_1.index t = ![0, 0] := by decide +kernel
  have e0 (t : Fin cfg0.N) : Call0.blk (asBufs (V0 m)) c 0 t = m ((c : Thread nD τ).loc main_arg0) := by
    funext y; unfold Call0.blk; blk_ext [i0 t]
  have e1 (t : Fin cfg0.N) : Call0.blk (asBufs (V0 m)) c 1 t = m ((c : Thread nD τ).loc main_arg2) := by
    funext y; unfold Call0.blk; blk_ext [i1 t]
  refine (d0 m c).arrAt_eq_of_after_last 2 ⟨0, by decide⟩ (by decide +kernel) _ fun j => ?_
  refine (congrFun (Call0.after2 (asBufs (V0 m)) 0 c ⟨0, by decide⟩) _).trans ?_
  rw [e0, e1]
  rfl

/-! ## The second call -/

/-- Row `y` of the second call's block `t`. -/
def row4 (t : Fin cfg1.N) (y : Fin 400) : Fin 10000 := ⟨400 * t.val + y.val, by have : t.val < 25 := t.isLt; omega⟩

theorem index0 : ∀ t : Fin cfg1.N, win1_0.index t = ![t.val, 0] := by decide +kernel
theorem index1 : ∀ t : Fin cfg1.N, win1_1.index t = ![0, 0] := by decide +kernel
theorem index2 : ∀ t : Fin cfg1.N, win1_2.index t = ![0, 0] := by decide +kernel
theorem index3 : ∀ t : Fin cfg1.N, win1_3.index t = ![0, 0] := by decide +kernel
theorem index4 : ∀ t : Fin cfg1.N, win1_4.index t = ![t.val, 0] := by decide +kernel
theorem index5 : ∀ t : Fin cfg1.N, win1_5.index t = ![t.val, 0] := by decide +kernel
theorem index6 : ∀ t : Fin cfg1.N, win1_6.index t = ![t.val, 0] := by decide +kernel
theorem index7 : ∀ t : Fin cfg1.N, win1_7.index t = ![t.val, 0] := by decide +kernel

/-- What the second call is entered with. -/
def e1 (b : Ref sig .tc) : Buf (Elt Ideal) ((c : Thread nD τ).loc b) := asBufs (V2 m (outsA m)) c b

local notation "𝔹" => Call1.blk (asBufs (V2 m (outsA m))) c

theorem blk0_at (t : Fin cfg1.N) (y : Fin 400) (k : Fin 10000) : 𝔹 0 t (ix2 y k) = mat (e1 m c main_arg1) (row4 t y) k := by
  unfold Call1.blk row4
  show _ = asBufs (V2 m (outsA m)) c main_arg1 _
  blk_ext [index0 t]
theorem blk1_eq (t : Fin cfg1.N) : 𝔹 1 t = e1 m c main_v0 := by
  funext j
  unfold Call1.blk
  show _ = asBufs (V2 m (outsA m)) c main_v0 _
  blk_ext [index1 t]
theorem blk2_eq (t : Fin cfg1.N) : 𝔹 2 t = e1 m c main_v1 := by
  funext j
  unfold Call1.blk
  show _ = asBufs (V2 m (outsA m)) c main_v1 _
  blk_ext [index2 t]
theorem blk3_eq (t : Fin cfg1.N) : 𝔹 3 t = e1 m c main_arg4 := by
  funext j
  unfold Call1.blk
  show _ = asBufs (V2 m (outsA m)) c main_arg4 _
  blk_ext [index3 t]

/-- The head's layer of what the second call is entered with. -/
def H : Mat 10000 64 := lin (mat (e1 m c main_arg1)) (mat (e1 m c main_v0)) fun j => e1 m c main_v1 (ix2 (n0 := 1) 0 j)

theorem row_lin (t : Fin cfg1.N) (a : Fin 400) :
    lin (mat (𝔹 0 t)) (mat (𝔹 1 t)) (fun j => 𝔹 2 t (ix2 (n0 := 1) 0 j)) a = H m c (row4 t a) := by
  funext j
  rw [blk1_eq, blk2_eq]
  unfold H lin mm
  simp only [mat, blk0_at]

/-- The second call's scaled matrix, -/
theorem scaled_array : (d1 m c).arrAt 4 cfg1.N = fun i : S10000x10000.Idx => mat (e1 m c main_arg1) (i 0) (i 1) * ((10000 : ℝ) : EReal) := by
  refine (d1 m c).arrAt_eq_of_covers 4 _ (by decide +kernel) fun t hf y => ?_
  blk_simp
  unfold d1
  rw [Call1.after4]
  have key (a : Fin 400) (k : Fin 10000) : k1_pay1 (𝔹 0 t) (ix2 a k) = mat (e1 m c main_arg1) (row4 t a) k * ((10000 : ℝ) : EReal) := by
    rw [Pay.scaled, blk0_at]
  refine (congrArg _ (eq_ix2 y)).trans ((key _ _).trans ?_)
  have h0 : row4 t (y 0) = (win1_4.blk t).view.emb y 0 := by apply Fin.ext; show 400 * t.val + (y 0).val = _; blk_simp [index4 t]; omega
  have h1 : y 1 = (win1_4.blk t).view.emb y 1 := by apply Fin.ext; blk_simp [index4 t]
  rw [h0, h1]

/-- the head's layer, -/
theorem head_array : (d1 m c).arrAt 5 cfg1.N = fun i : S10000x64.Idx => H m c (i 0) (i 1) := by
  refine (d1 m c).arrAt_eq_of_covers 5 _ (by decide +kernel) fun t hf y => ?_
  blk_simp
  unfold d1
  rw [Call1.after5]
  have key (a : Fin 400) (k : Fin 64) : k1_pay3 (𝔹 0 t) (𝔹 1 t) (𝔹 2 t) (ix2 a k) = H m c (row4 t a) k := by
    rw [Pay.head, row_lin]
  refine (congrArg _ (eq_ix2 y)).trans ((key _ _).trans ?_)
  have h0 : row4 t (y 0) = (win1_5.blk t).view.emb y 0 := by apply Fin.ext; show 400 * t.val + (y 0).val = _; blk_simp [index5 t]; omega
  have h1 : y 1 = (win1_5.blk t).view.emb y 1 := by apply Fin.ext; blk_simp [index5 t]
  rw [h0, h1]

/-- its product with the first weights, -/
theorem first_array : (d1 m c).arrAt 6 cfg1.N = fun i : S10000x64.Idx => mm (H m c) (mat (e1 m c main_arg4)) (i 0) (i 1) := by
  refine (d1 m c).arrAt_eq_of_covers 6 _ (by decide +kernel) fun t hf y => ?_
  blk_simp
  unfold d1
  rw [Call1.after6]
  have key (a : Fin 400) (k : Fin 64) : k1_pay4 (𝔹 0 t) (𝔹 1 t) (𝔹 2 t) (𝔹 3 t) (ix2 a k) = mm (H m c) (mat (e1 m c main_arg4)) (row4 t a) k := by
    rw [Pay.first]
    unfold mm
    rw [row_lin, blk3_eq]
  refine (congrArg _ (eq_ix2 y)).trans ((key _ _).trans ?_)
  have h0 : row4 t (y 0) = (win1_6.blk t).view.emb y 0 := by apply Fin.ext; show 400 * t.val + (y 0).val = _; blk_simp [index6 t]; omega
  have h1 : y 1 = (win1_6.blk t).view.emb y 1 := by apply Fin.ext; blk_simp [index6 t]
  rw [h0, h1]

/-- and the row sums. -/
theorem sums_array : (d1 m c).arrAt 7 cfg1.N = fun i : S10000x1.Idx => ∑ k, mat (e1 m c main_arg1) (i 0) k := by
  refine (d1 m c).arrAt_eq_of_covers 7 _ (by decide +kernel) fun t hf y => ?_
  blk_simp
  unfold d1
  rw [Call1.after7]
  have key (a : Fin 400) (k : Fin 1) : k1_pay2 (𝔹 0 t) (ix2 a k) = ∑ k, mat (e1 m c main_arg1) (row4 t a) k := by
    rw [Pay.rowsum]
    simp only [blk0_at]
  refine (congrArg _ (eq_ix2 y)).trans ((key _ _).trans ?_)
  have h0 : row4 t (y 0) = (win1_7.blk t).view.emb y 0 := by apply Fin.ext; show 400 * t.val + (y 0).val = _; blk_simp [index7 t]; omega
  rw [h0]

/-! ## The reshapes -/

section Reshapes
variable (X : Valuation τ sig (Elt Ideal))

theorem bias1 : StableHlo.after hostOps1 X main_v1 = shapeCast S1x64 (X main_arg3) shapeCasts_S64_S1x64 := by
  after_results; rfl
theorem bias3 : StableHlo.after hostOps2 X main_v3 = shapeCast S1x64 (X main_arg5) shapeCasts_S64_S1x64 := by
  after_results; rfl
theorem bias4 : StableHlo.after hostOps2 X main_v4 = shapeCast S1x64 (X main_arg7) shapeCasts_S64_S1x64 := by
  after_results; rfl
theorem bias5 : StableHlo.after hostOps2 X main_v5 = shapeCast S1x64 (X main_arg9) shapeCasts_S64_S1x64 := by
  after_results; rfl
theorem bias6 : StableHlo.after hostOps2 X main_v6 = shapeCast S1x64 (X main_arg11) shapeCasts_S64_S1x64 := by
  after_results; rfl
theorem bias7 : StableHlo.after hostOps2 X main_v7 = shapeCast S1x256 (X main_arg13) shapeCasts_S256_S1x256 := by
  after_results; rfl
theorem bias8 : StableHlo.after hostOps2 X main_v8 = shapeCast S1x64 (X main_arg15) shapeCasts_S64_S1x64 := by
  after_results; rfl
theorem bias9 : StableHlo.after hostOps2 X main_v9 = shapeCast S1x13 (X main_arg17) shapeCasts_S13_S1x13 := by
  after_results; rfl

theorem row64 (x : FVec Ideal S64 .f32) (j : Fin 64) : shapeCast S1x64 x shapeCasts_S64_S1x64 (ix2 0 j) = x (ix1 j) := by
  pointwise
theorem row256 (x : FVec Ideal S256 .f32) (j : Fin 256) : shapeCast S1x256 x shapeCasts_S256_S1x256 (ix2 0 j) = x (ix1 j) := by
  pointwise
theorem row13 (x : FVec Ideal S13 .f32) (j : Fin 13) : shapeCast S1x13 x shapeCasts_S13_S1x13 (ix2 0 j) = x (ix1 j) := by
  pointwise

end Reshapes

/-! ## The last call -/

theorem index17 : ∀ t : Fin cfg2.N, 30 ≤ t.val → win2_17.index t = ![t.val % 10, 0] := by decide +kernel
theorem index18 : ∀ t : Fin cfg2.N, 30 ≤ t.val → win2_18.index t = ![t.val % 10, 0] := by decide +kernel

/-- The last call's inputs. -/
def I2 : Main.Ins Ideal := Main.ins (asBufs (V4 m (outsB m))) c

theorem out_array {A : Mat 10000 10000} (g : Main.Good (I2 m c) A) : (d2 m c).arrAt 17 cfg2.N = fun i : S10000x13.Idx => Main.Nout (I2 m c) A (i 0) (i 1) := by
  refine (d2 m c).arrAt_eq_of_covers 17 _ (by decide +kernel) fun t hf y => ?_
  have ht : 30 ≤ t.val := of_decide_eq_true ((Main.flush17 t).symm.trans hf)
  blk_simp
  unfold d2
  rw [Main.after17]
  refine (congrArg _ (eq_ix2 y)).trans ((g.output _ _ _).trans ?_)
  have h0 : Main.row (Main.ix t) (y 0) = (win2_17.blk t).view.emb y 0 := by
    apply Fin.ext; show 1000 * (t.val % 10) + (y 0).val = _; blk_simp [index17 t ht]; omega
  have h1 : y 1 = (win2_17.blk t).view.emb y 1 := by apply Fin.ext; blk_simp [index17 t ht]
  rw [h0, h1]

theorem fus_array {A : Mat 10000 10000} (g : Main.Good (I2 m c) A) : (d2 m c).arrAt 18 cfg2.N = fun i : S10000x256.Idx => Main.Nfus (I2 m c) A (i 0) (i 1) := by
  refine (d2 m c).arrAt_eq_of_covers 18 _ (by decide +kernel) fun t hf y => ?_
  have ht : 30 ≤ t.val := of_decide_eq_true ((Main.flush18 t).symm.trans hf)
  blk_simp
  unfold d2
  rw [Main.after18]
  refine (congrArg _ (eq_ix2 y)).trans ((g.fusion _ _ _).trans ?_)
  have h0 : Main.row (Main.ix t) (y 0) = (win2_18.blk t).view.emb y 0 := by
    apply Fin.ext; show 1000 * (t.val % 10) + (y 0).val = _; blk_simp [index18 t ht]; omega
  have h1 : y 1 = (win2_18.blk t).view.emb y 1 := by apply Fin.ext; blk_simp [index18 t ht]
  rw [h0, h1]

end Cert.KernelIdeal.Run

end
-- ==== Proof.KernelIdeal.Values.lean ====
module

public import proofs.«01_k».proof.Proof.KernelIdeal.Arrays

/-! The kernel's two results are the network's, on finite arguments: the calls' arrays put together. -/

@[expose] public section

set_option maxRecDepth 16384

noncomputable section

namespace Cert.KernelIdeal.Run

open Cert.KernelIdeal Cert.KernelIdeal.Gen Cert.Net
open Cert.KernelIdeal.Pay (mat)
open Idealize.ShloMosaic Idealize.ShloMosaic.TcCoe

variable (m : (ℓ : Loc nD τ sig) → Buf (Elt Ideal) ℓ) (c : Dev nD)

/-- A bias as a row. -/
abbrev vec {c : ℕ} (x : (⟨1, ![c]⟩ : Shape).Idx → EReal) : Fin c → EReal := fun j => x (ix1 j)

/-- The network's arrays in the kernel's arguments. -/
def par : Params where
  A := mat (m ((c : Thread nD τ).loc main_arg1))
  x := mat (m ((c : Thread nD τ).loc main_arg0))
  w0 := mat (m ((c : Thread nD τ).loc main_arg2))
  b0 := vec (m ((c : Thread nD τ).loc main_arg3))
  w1 := mat (m ((c : Thread nD τ).loc main_arg4))
  b1 := vec (m ((c : Thread nD τ).loc main_arg5))
  w2 := mat (m ((c : Thread nD τ).loc main_arg6))
  b2 := vec (m ((c : Thread nD τ).loc main_arg7))
  w3 := mat (m ((c : Thread nD τ).loc main_arg8))
  b3 := vec (m ((c : Thread nD τ).loc main_arg9))
  w4 := mat (m ((c : Thread nD τ).loc main_arg10))
  b4 := vec (m ((c : Thread nD τ).loc main_arg11))
  w5 := mat (m ((c : Thread nD τ).loc main_arg12))
  b5 := vec (m ((c : Thread nD τ).loc main_arg13))
  w6 := mat (m ((c : Thread nD τ).loc main_arg14))
  b6 := vec (m ((c : Thread nD τ).loc main_arg15))
  w7 := mat (m ((c : Thread nD τ).loc main_arg16))
  b7 := vec (m ((c : Thread nD τ).loc main_arg17))

/-! ## What the second call is entered with -/

theorem e1_of (r : Ref sig .tc) (h : r ∉ ([main_v0] : List (Ref sig .tc))) (h' : r ∉ hostOps1_W) : e1 m c r = m ((c : Thread nD τ).loc r) :=
  (V2_of m (outsA m) c r h').trans (V1_of m (outsA m) c r h)

theorem e1_v0 : e1 m c main_v0 = k0_pay1 (m ((c : Thread nD τ).loc main_arg0)) (m ((c : Thread nD τ).loc main_arg2)) := by
  refine (V2_of m (outsA m) c main_v0 (by decide)).trans ?_
  refine (Function.update_self (β := fun b : DevRef τ sig => b.ty.Contents (Elt Ideal)) (Proc.devRef .tc main_v0 : DevRef τ sig) _ _).trans ?_
  exact (Pipeline.afterRegion_arr (d0 m c) (V0 m c) winFacts0.arr_inj 2).trans (head_product m c)

theorem e1_v1 (j : Fin 64) : e1 m c main_v1 (ix2 (n0 := 1) 0 j) = m ((c : Thread nD τ).loc main_arg3) (ix1 j) := by
  refine (congrFun (bias1 (V1 m (outsA m) c)) _).trans ((row64 _ j).trans ?_)
  exact congrFun (V1_of m (outsA m) c main_arg3 (by decide)) _

theorem H_eq : H m c = (par m c).f0 := by
  unfold H
  rw [e1_of m c main_arg1 (by decide) (by decide), e1_v0]
  simp only [e1_v1]
  unfold Params.f0
  congr 1
  funext i j
  exact Pay.pay0 _ _ i j

/-! ## What the last call is entered with -/

theorem e2_of (r : Ref sig .tc) (h : r ∉ ([main_v0] : List (Ref sig .tc))) (h1 : r ∉ hostOps1_W) (h2 : r ∉ ([main_v2_0, main_v2_1, main_v2_2, main_v2_3] : List (Ref sig .tc))) :
    V3 m (outsB m) c r = m ((c : Thread nD τ).loc r) :=
  (V3_of m (outsB m) c r h2).trans ((V2_of m (outsB m) c r h1).trans (V1_of m (outsB m) c r h))

theorem x0_eq : (I2 m c).x0 = (d1 m c).arrAt 4 cfg1.N := by
  refine (V4_of m (outsB m) c main_v2_0 (by decide)).trans ?_
  have e : V3 m (outsB m) c main_v2_0 = outsB m 3 main_v2_0 c := by
    simp only [V3, Function.update_of_ne (StableHlo.devRef_ne_of_ne (by decide) : (Proc.devRef .tc main_v2_0 : DevRef τ sig) ≠ Proc.devRef .tc main_v2_3), Function.update_of_ne (StableHlo.devRef_ne_of_ne (by decide) : (Proc.devRef .tc main_v2_0 : DevRef τ sig) ≠ Proc.devRef .tc main_v2_2), Function.update_of_ne (StableHlo.devRef_ne_of_ne (by decide) : (Proc.devRef .tc main_v2_0 : DevRef τ sig) ≠ Proc.devRef .tc main_v2_1), Function.update_self]
  exact e.trans (Pipeline.afterRegion_arr (d1 m c) (V2 m (outsA m) c) winFacts1.arr_inj 4)
theorem x1_eq : (I2 m c).x1 = (d1 m c).arrAt 7 cfg1.N := by
  refine (V4_of m (outsB m) c main_v2_3 (by decide)).trans ?_
  have e : V3 m (outsB m) c main_v2_3 = outsB m 3 main_v2_3 c := by
    simp only [V3, Function.update_self]
  exact e.trans (Pipeline.afterRegion_arr (d1 m c) (V2 m (outsA m) c) winFacts1.arr_inj 7)
theorem x2_eq : (I2 m c).x2 = (d1 m c).arrAt 6 cfg1.N := by
  refine (V4_of m (outsB m) c main_v2_2 (by decide)).trans ?_
  have e : V3 m (outsB m) c main_v2_2 = outsB m 3 main_v2_2 c := by
    simp only [V3, Function.update_of_ne (StableHlo.devRef_ne_of_ne (by decide) : (Proc.devRef .tc main_v2_2 : DevRef τ sig) ≠ Proc.devRef .tc main_v2_3), Function.update_self]
  exact e.trans (Pipeline.afterRegion_arr (d1 m c) (V2 m (outsA m) c) winFacts1.arr_inj 6)
theorem x3_eq : (I2 m c).x3 = (d1 m c).arrAt 5 cfg1.N := by
  refine (V4_of m (outsB m) c main_v2_1 (by decide)).trans ?_
  have e : V3 m (outsB m) c main_v2_1 = outsB m 3 main_v2_1 c := by
    simp only [V3, Function.update_of_ne (StableHlo.devRef_ne_of_ne (by decide) : (Proc.devRef .tc main_v2_1 : DevRef τ sig) ≠ Proc.devRef .tc main_v2_3), Function.update_of_ne (StableHlo.devRef_ne_of_ne (by decide) : (Proc.devRef .tc main_v2_1 : DevRef τ sig) ≠ Proc.devRef .tc main_v2_2), Function.update_self]
  exact e.trans (Pipeline.afterRegion_arr (d1 m c) (V2 m (outsA m) c) winFacts1.arr_inj 5)

theorem x4_at (j : Fin 64) : (I2 m c).x4 (ix2 0 j) = m ((c : Thread nD τ).loc main_arg5) (ix1 j) := by
  refine (congrFun (bias3 (V3 m (outsB m) c)) _).trans ((row64 _ j).trans ?_)
  exact congrFun (e2_of m c main_arg5 (by decide) (by decide) (by decide)) _
theorem x6_at (j : Fin 64) : (I2 m c).x6 (ix2 0 j) = m ((c : Thread nD τ).loc main_arg7) (ix1 j) := by
  refine (congrFun (bias4 (V3 m (outsB m) c)) _).trans ((row64 _ j).trans ?_)
  exact congrFun (e2_of m c main_arg7 (by decide) (by decide) (by decide)) _
theorem x8_at (j : Fin 64) : (I2 m c).x8 (ix2 0 j) = m ((c : Thread nD τ).loc main_arg9) (ix1 j) := by
  refine (congrFun (bias5 (V3 m (outsB m) c)) _).trans ((row64 _ j).trans ?_)
  exact congrFun (e2_of m c main_arg9 (by decide) (by decide) (by decide)) _
theorem x10_at (j : Fin 64) : (I2 m c).x10 (ix2 0 j) = m ((c : Thread nD τ).loc main_arg11) (ix1 j) := by
  refine (congrFun (bias6 (V3 m (outsB m) c)) _).trans ((row64 _ j).trans ?_)
  exact congrFun (e2_of m c main_arg11 (by decide) (by decide) (by decide)) _
theorem x12_at (j : Fin 256) : (I2 m c).x12 (ix2 0 j) = m ((c : Thread nD τ).loc main_arg13) (ix1 j) := by
  refine (congrFun (bias7 (V3 m (outsB m) c)) _).trans ((row256 _ j).trans ?_)
  exact congrFun (e2_of m c main_arg13 (by decide) (by decide) (by decide)) _
theorem x14_at (j : Fin 64) : (I2 m c).x14 (ix2 0 j) = m ((c : Thread nD τ).loc main_arg15) (ix1 j) := by
  refine (congrFun (bias8 (V3 m (outsB m) c)) _).trans ((row64 _ j).trans ?_)
  exact congrFun (e2_of m c main_arg15 (by decide) (by decide) (by decide)) _
theorem x16_at (j : Fin 13) : (I2 m c).x16 (ix2 0 j) = m ((c : Thread nD τ).loc main_arg17) (ix1 j) := by
  refine (congrFun (bias9 (V3 m (outsB m) c)) _).trans ((row13 _ j).trans ?_)
  exact congrFun (e2_of m c main_arg17 (by decide) (by decide) (by decide)) _
theorem x5_eq : (I2 m c).x5 = m ((c : Thread nD τ).loc main_arg6) :=
  (V4_of m (outsB m) c main_arg6 (by decide)).trans (e2_of m c main_arg6 (by decide) (by decide) (by decide))
theorem x7_eq : (I2 m c).x7 = m ((c : Thread nD τ).loc main_arg8) :=
  (V4_of m (outsB m) c main_arg8 (by decide)).trans (e2_of m c main_arg8 (by decide) (by decide) (by decide))
theorem x9_eq : (I2 m c).x9 = m ((c : Thread nD τ).loc main_arg10) :=
  (V4_of m (outsB m) c main_arg10 (by decide)).trans (e2_of m c main_arg10 (by decide) (by decide) (by decide))
theorem x11_eq : (I2 m c).x11 = m ((c : Thread nD τ).loc main_arg12) :=
  (V4_of m (outsB m) c main_arg12 (by decide)).trans (e2_of m c main_arg12 (by decide) (by decide) (by decide))
theorem x13_eq : (I2 m c).x13 = m ((c : Thread nD τ).loc main_arg14) :=
  (V4_of m (outsB m) c main_arg14 (by decide)).trans (e2_of m c main_arg14 (by decide) (by decide) (by decide))
theorem x15_eq : (I2 m c).x15 = m ((c : Thread nD τ).loc main_arg16) :=
  (V4_of m (outsB m) c main_arg16 (by decide)).trans (e2_of m c main_arg16 (by decide) (by decide) (by decide))

theorem x2_mat : mat (I2 m c).x2 = mm (par m c).f0 (par m c).w1 := by
  rw [x2_eq, first_array, H_eq, e1_of m c main_arg4 (by decide) (by decide)]
  rfl
theorem x3_mat : mat (I2 m c).x3 = (par m c).f0 := by
  rw [x3_eq, head_array, H_eq]
  rfl

/-- The arguments that the aggregations read are finite. -/
structure Finite : Prop where
  A : FinM (par m c).A
  x : FinM (par m c).x
  w0 : FinM (par m c).w0
  b0 : ∀ j, Fin' ((par m c).b0 j)
  w1 : FinM (par m c).w1
  b1 : ∀ j, Fin' ((par m c).b1 j)
  w2 : FinM (par m c).w2
  b2 : ∀ j, Fin' ((par m c).b2 j)
  w3 : FinM (par m c).w3
  b3 : ∀ j, Fin' ((par m c).b3 j)
  w4 : FinM (par m c).w4

variable {m c}

theorem Finite.f0 (f : Finite m c) : FinM (par m c).f0 := f.A.lin (f.x.mm f.w0) f.b0

/-- The last call is entered with what its phases need. -/
theorem Finite.good (f : Finite m c) : Main.Good (I2 m c) (par m c).A where
  x0 r k := by
    rw [x0_eq, scaled_array, e1_of m c main_arg1 (by decide) (by decide)]; rfl
  x1 r := by
    rw [x1_eq, sums_array, e1_of m c main_arg1 (by decide) (by decide)]; rfl
  fA := f.A
  fx2 := by rw [x2_mat]; exact f.f0.mm f.w1
  fx3 := by rw [x3_mat]; exact f.f0
  fx4 j := by rw [x4_at]; exact f.b1 j
  fx5 := by rw [x5_eq]; exact f.w2
  fx6 j := by rw [x6_at]; exact f.b2 j
  fx7 := by rw [x7_eq]; exact f.w3
  fx8 j := by rw [x8_at]; exact f.b3 j
  fx9 := by rw [x9_eq]; exact f.w4

theorem N0_eq : Main.N0 (I2 m c) (par m c).A = mm (lin (par m c).A (mm (par m c).f0 (par m c).w1) (par m c).b1) (par m c).w2 := by
  unfold Main.N0; rw [x2_mat, x5_eq]; simp only [x4_at]; rfl
theorem NF1_eq : Main.NF1 (I2 m c) (par m c).A = (par m c).f1 := by
  unfold Main.NF1; rw [N0_eq, x3_mat]; simp only [x6_at]; rfl
theorem N2_eq : Main.N2 (I2 m c) (par m c).A = mm (lin (par m c).A (mm (par m c).f1 (par m c).w3) (par m c).b3) (par m c).w4 := by
  unfold Main.N2 Main.NB; rw [NF1_eq, x7_eq, x9_eq]; simp only [x8_at]; rfl
theorem NF2_eq : Main.NF2 (I2 m c) (par m c).A = (par m c).f2 := by
  unfold Main.NF2; rw [N2_eq, NF1_eq]; simp only [x10_at]; rfl
theorem Nfus_eq : Main.Nfus (I2 m c) (par m c).A = (par m c).fus := by
  unfold Main.Nfus; rw [NF2_eq, NF1_eq, x3_mat, x11_eq]; simp only [x12_at]; rfl
theorem Nout_eq : Main.Nout (I2 m c) (par m c).A = (par m c).out := by
  unfold Main.Nout; rw [Nfus_eq, x13_eq, x15_eq]; simp only [x14_at, x16_at]; rfl

/-- The prediction, -/
theorem Finite.out (f : Finite m c) : outs m 5 main_v10_0 c = fun i : S10000x13.Idx => (par m c).out (i 0) (i 1) := by
  refine (Pipeline.afterRegion_arr (d2 m c) (V4 m (outsB m) c) winFacts2.arr_inj 17).trans ?_
  rw [out_array m c f.good, Nout_eq]
/-- and the fusion. -/
theorem Finite.fus (f : Finite m c) : outs m 5 main_v10_1 c = fun i : S10000x256.Idx => (par m c).fus (i 0) (i 1) := by
  refine (Pipeline.afterRegion_arr (d2 m c) (V4 m (outsB m) c) winFacts2.arr_inj 18).trans ?_
  rw [fus_array m c f.good, Nfus_eq]

end Cert.KernelIdeal.Run

end
-- ==== Proof.Reference.lean ====
module

public import proofs.«01_k».proof.Proof.Gen.ReferenceIdeal.Run
public import proofs.«01_k».proof.Proof.Network
public import Idealize.ShloMosaic.Lib.Pointwise

/-! The reference's two results are the network's, entry by entry. -/

@[expose] public section

set_option maxRecDepth 16384

noncomputable section

namespace Cert.ReferenceIdeal.Value

open Cert.ReferenceIdeal Cert.ReferenceIdeal.Gen Cert.Net
open Idealize.ShloMosaic Idealize.ShloMosaic.TcCoe

/-- An array as a matrix, -/
abbrev mat {r c : ℕ} (x : (⟨2, ![r, c]⟩ : Shape).Idx → EReal) : Mat r c := fun i j => x (ix2 i j)
/-- and one of one axis as a row. -/
abbrev vec {c : ℕ} (x : (⟨1, ![c]⟩ : Shape).Idx → EReal) : Fin c → EReal := fun j => x (ix1 j)

/-! ## The reference's layers -/

/-- A layer's bias on every row. -/
def bias (b : FVec Ideal S64 .f32) : FVec Ideal S10000x64 .f32 :=
  broadcastInDim S10000x64 ![0, 1] bcast_S1x64_S10000x64_0_1 (broadcastInDim S1x64 ![1] bcast_S64_S1x64_1 b)
def zero : FVec Ideal S10000x64 .f32 := broadcastInDim S10000x64 ![] bcast_S_S10000x64 (constant S_ .f32 0x00000000#32)
def gathered (A : FVec Ideal S10000x10000 .f32) (B : FVec Ideal S10000x64 .f32) (b : FVec Ideal S64 .f32) : FVec Ideal S10000x64 .f32 :=
  addf (Host.dotGeneral dot_S10000x10000_S10000x64_S10000x64_1_0_0_1_n_n none A B) (bias b)
def layer (A : FVec Ideal S10000x10000 .f32) (B : FVec Ideal S10000x64 .f32) (b : FVec Ideal S64 .f32) : FVec Ideal S10000x64 .f32 :=
  maximumf (gathered A B b) zero
def block (A : FVec Ideal S10000x10000 .f32) (B : FVec Ideal S10000x64 .f32) (b : FVec Ideal S64 .f32) (R : FVec Ideal S10000x64 .f32) :
    FVec Ideal S10000x64 .f32 := maximumf (addf (gathered A B b) R) zero
def times (B : FVec Ideal S10000x64 .f32) (w : FVec Ideal S64x64 .f32) : FVec Ideal S10000x64 .f32 :=
  Host.dotGeneral dot_S10000x64_S64x64_S10000x64_1_0_0_1_n_n none B w
def headed (x : FVec Ideal S10000x128 .f32) (w : FVec Ideal S128x64 .f32) : FVec Ideal S10000x64 .f32 :=
  Host.dotGeneral dot_S10000x128_S128x64_S10000x64_1_0_0_1_n_n none x w
def joined (f0 f1 f2 : FVec Ideal S10000x64 .f32) : FVec Ideal S10000x192 .f32 :=
  concatenate S10000x192 1 [⟨S10000x64, f0⟩, ⟨S10000x64, f1⟩, ⟨S10000x64, f2⟩] concatenates_S10000x64_S10000x64_S10000x64_S10000x192_d1
def fusing (x : FVec Ideal S10000x192 .f32) (w : FVec Ideal S192x256 .f32) (b : FVec Ideal S256 .f32) : FVec Ideal S10000x256 .f32 :=
  maximumf (addf (Host.dotGeneral dot_S10000x192_S192x256_S10000x256_1_0_0_1_n_n none x w)
    (broadcastInDim S10000x256 ![0, 1] bcast_S1x256_S10000x256_0_1 (broadcastInDim S1x256 ![1] bcast_S256_S1x256_1 b)))
    (broadcastInDim S10000x256 ![] bcast_S_S10000x256 (constant S_ .f32 0x00000000#32))
def predicting (x : FVec Ideal S10000x256 .f32) (w : FVec Ideal S256x64 .f32) (b : FVec Ideal S64 .f32) (w' : FVec Ideal S64x13 .f32) (b' : FVec Ideal S13 .f32) :
    FVec Ideal S10000x13 .f32 :=
  addf (Host.dotGeneral dot_S10000x64_S64x13_S10000x13_1_0_0_1_n_n none
      (maximumf (addf (Host.dotGeneral dot_S10000x256_S256x64_S10000x64_1_0_0_1_n_n none x w) (bias b)) zero) w')
    (broadcastInDim S10000x13 ![0, 1] bcast_S1x13_S10000x13_0_1 (broadcastInDim S1x13 ![1] bcast_S13_S1x13_1 b'))

theorem gathered_at (A B b) (i : Fin 10000) (j : Fin 64) : gathered A B b (ix2 i j) = mm (mat A) (mat B) i j + vec b j := by
  pointwise [gathered, bias]
  rfl
theorem layer_at (A B b) : mat (layer A B b) = lin (mat A) (mat B) (vec b) := by
  funext i j
  pointwise [layer, gathered, bias, zero]
  rfl
theorem block_at (A B b R) : mat (block A B b R) = res (mat A) (mat B) (vec b) (mat R) := by
  funext i j
  pointwise [block, gathered, bias, zero]
  rfl
theorem times_at (B w) : mat (times B w) = mm (mat B) (mat w) := by
  funext i j
  show times B w (ix2 i j) = _
  pointwise [times]
  rfl
theorem headed_at (x w) : mat (headed x w) = mm (mat x) (mat w) := by
  funext i j
  show headed x w (ix2 i j) = _
  pointwise [headed]
  rfl
theorem joined_at (f0 f1 f2) : mat (joined f0 f1 f2) = cat (mat f0) (mat f1) (mat f2) := by
  funext i j
  pointwise [joined]
  rfl
theorem fusing_at (x w b) : mat (fusing x w b) = lin (mat x) (mat w) (vec b) := by
  funext i j
  pointwise [fusing]
  rfl
theorem predicting_at (x w b w' b') : mat (predicting x w b w' b') = fun r j => mm (lin (mat x) (mat w) (vec b)) (mat w') r j + vec b' j := by
  funext i j
  pointwise [predicting, bias, zero]
  rfl

/-! ## The results -/

variable (m : (ℓ : Loc nD τ sig) → Buf (Elt Ideal) ℓ) (c : Dev nD)

/-- The network's arrays in the reference's arguments. -/
def par : Params where
  A := mat (m ((c : Thread nD τ).loc main_arg1))
  x := mat (m ((c : Thread nD τ).loc main_arg0))
  w0 := mat (m ((c : Thread nD τ).loc main_arg2))
  b0 := vec (m ((c : Thread nD τ).loc main_arg3))
  w1 := mat (m ((c : Thread nD τ).loc main_arg4))
  b1 := vec (m ((c : Thread nD τ).loc main_arg5))
  w2 := mat (m ((c : Thread nD τ).loc main_arg6))
  b2 := vec (m ((c : Thread nD τ).loc main_arg7))
  w3 := mat (m ((c : Thread nD τ).loc main_arg8))
  b3 := vec (m ((c : Thread nD τ).loc main_arg9))
  w4 := mat (m ((c : Thread nD τ).loc main_arg10))
  b4 := vec (m ((c : Thread nD τ).loc main_arg11))
  w5 := mat (m ((c : Thread nD τ).loc main_arg12))
  b5 := vec (m ((c : Thread nD τ).loc main_arg13))
  w6 := mat (m ((c : Thread nD τ).loc main_arg14))
  b6 := vec (m ((c : Thread nD τ).loc main_arg15))
  w7 := mat (m ((c : Thread nD τ).loc main_arg16))
  b7 := vec (m ((c : Thread nD τ).loc main_arg17))

def g0 : FVec Ideal S10000x64 .f32 :=
  layer (m ((c : Thread nD τ).loc main_arg1)) (headed (m ((c : Thread nD τ).loc main_arg0)) (m ((c : Thread nD τ).loc main_arg2))) (m ((c : Thread nD τ).loc main_arg3))
def g1 : FVec Ideal S10000x64 .f32 :=
  block (m ((c : Thread nD τ).loc main_arg1))
    (times (layer (m ((c : Thread nD τ).loc main_arg1)) (times (g0 m c) (m ((c : Thread nD τ).loc main_arg4))) (m ((c : Thread nD τ).loc main_arg5)))
      (m ((c : Thread nD τ).loc main_arg6))) (m ((c : Thread nD τ).loc main_arg7)) (g0 m c)
def g2 : FVec Ideal S10000x64 .f32 :=
  block (m ((c : Thread nD τ).loc main_arg1))
    (times (layer (m ((c : Thread nD τ).loc main_arg1)) (times (g1 m c) (m ((c : Thread nD τ).loc main_arg8))) (m ((c : Thread nD τ).loc main_arg9)))
      (m ((c : Thread nD τ).loc main_arg10))) (m ((c : Thread nD τ).loc main_arg11)) (g1 m c)
def gfus : FVec Ideal S10000x256 .f32 :=
  fusing (joined (g0 m c) (g1 m c) (g2 m c)) (m ((c : Thread nD τ).loc main_arg12)) (m ((c : Thread nD τ).loc main_arg13))
def gout : FVec Ideal S10000x13 .f32 :=
  predicting (gfus m c) (m ((c : Thread nD τ).loc main_arg14)) (m ((c : Thread nD τ).loc main_arg15)) (m ((c : Thread nD τ).loc main_arg16))
    (m ((c : Thread nD τ).loc main_arg17))

theorem g0_at : mat (g0 m c) = (par m c).f0 := by
  unfold g0; rw [layer_at, headed_at]; rfl
theorem g1_at : mat (g1 m c) = (par m c).f1 := by
  unfold g1; rw [block_at, times_at, layer_at, times_at, g0_at]; rfl
theorem g2_at : mat (g2 m c) = (par m c).f2 := by
  unfold g2; rw [block_at, times_at, layer_at, times_at, g1_at]; rfl
theorem gfus_at : mat (gfus m c) = (par m c).fus := by
  unfold gfus; rw [fusing_at, joined_at, g0_at, g1_at, g2_at]; rfl
theorem gout_at : mat (gout m c) = (par m c).out := by
  unfold gout; rw [predicting_at, gfus_at]; rfl

theorem v37_eq : res_main_v37 m c = gfus m c := rfl
theorem v46_eq : res_main_v46 m c = gout m c := rfl

end Cert.ReferenceIdeal.Value

end
-- ==== Proof.Finite.lean ====
module

public import proofs.«01_k».proof.Defs
public import proofs.«01_k».proof.Proof.Net
public import Idealize.ShloMosaic.Lib.ReduceAll
public import Idealize.ShloMosaic.Lib.Decide
public import Idealize.ShloMosaic.Lib.Pointwise

/-! The precondition: its conditions on shapes hold, and it says that the entries of the first eleven arrays are finite numbers. -/

@[expose] public section

set_option maxRecDepth 16384

noncomputable section

namespace Cert.Finite

open Cert.Pre_finite Cert.Net
open Idealize.ShloMosaic

instance facts : Cert.Pre_finite.Facts where
  bcast_S_S10000x128 := by decide
  reducesTo_S10000x128_S_d0_1 := by decide
  h_S_ := by decide
  bcast_S_S10000x10000 := by decide
  reducesTo_S10000x10000_S_d0_1 := by decide
  bcast_S_S128x64 := by decide
  reducesTo_S128x64_S_d0_1 := by decide
  bcast_S_S64 := by decide
  reducesTo_S64_S_d0 := by decide
  bcast_S_S64x64 := by decide
  reducesTo_S64x64_S_d0_1 := by decide

theorem top : Ideal.ofBits .f32 0x7F800000#32 = (⊤ : EReal) := by
  simp [Ideal.ofBits, Ideal.ieee]

theorem fin_of (x : EReal) (h : max x (-x) < ⊤) : Fin' x := by
  induction x with
  | bot => simp at h
  | top => simp at h
  | coe a => exact ⟨a, rfl⟩

instance : Subsingleton S_.Idx := ⟨fun a b => funext fun d => d.elim0⟩

/-- One array's condition. -/
theorem all_fin {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : Fin' (x i) := by
  have h := Host.reduce_andi_all _ _ hr hu j e i
  have h' : Ideal.cmp .olt (max (x i) (-(x i))) (Ideal.ofBits .f32 0x7F800000#32) = 1#1 := h
  rw [top] at h'
  refine fin_of _ ?_
  by_contra hn
  simp [Ideal.cmp, hn] at h'

theorem and_at (a b : IVec S_ 1) (j : S_.Idx) (h : andi a b j = 1#1) : a j = 1#1 ∧ b j = 1#1 := IntOp.andi_eq_one.1 h

open Cert.KernelIdeal Idealize.ShloMosaic.TcCoe in
/-- The precondition, read back. -/
theorem of_pre {m : (ℓ : Loc Cert.KernelIdeal.nD Cert.KernelIdeal.τ Cert.KernelIdeal.sig) → Buf (Elt Ideal) ℓ} (h : Cert.Pre_KernelIdeal_finite m) (c : Dev Cert.KernelIdeal.nD) :
    (∀ i, Fin' (m ((c : Thread nD τ).loc main_arg0) i)) ∧ (∀ i, Fin' (m ((c : Thread nD τ).loc main_arg1) i))
      ∧ (∀ i, Fin' (m ((c : Thread nD τ).loc main_arg2) i)) ∧ (∀ i, Fin' (m ((c : Thread nD τ).loc main_arg3) i))
      ∧ (∀ i, Fin' (m ((c : Thread nD τ).loc main_arg4) i)) ∧ (∀ i, Fin' (m ((c : Thread nD τ).loc main_arg5) i))
      ∧ (∀ i, Fin' (m ((c : Thread nD τ).loc main_arg6) i)) ∧ (∀ i, Fin' (m ((c : Thread nD τ).loc main_arg7) i))
      ∧ (∀ i, Fin' (m ((c : Thread nD τ).loc main_arg8) i)) ∧ (∀ i, Fin' (m ((c : Thread nD τ).loc main_arg9) i))
      ∧ (∀ i, Fin' (m ((c : Thread nD τ).loc main_arg10) i)) := by
  have j : Cert.Pre_finite.S_.Idx := fun d => d.elim0
  have e := congrFun (h c) j
  obtain ⟨e, e10⟩ := and_at _ _ j e
  obtain ⟨e, e9⟩ := and_at _ _ j e
  obtain ⟨e, e8⟩ := and_at _ _ j e
  obtain ⟨e, e7⟩ := and_at _ _ j e
  obtain ⟨e, e6⟩ := and_at _ _ j e
  obtain ⟨e, e5⟩ := and_at _ _ j e
  obtain ⟨e, e4⟩ := and_at _ _ j e
  obtain ⟨e, e3⟩ := and_at _ _ j e
  obtain ⟨e, e2⟩ := and_at _ _ j e
  obtain ⟨e0, e1⟩ := and_at _ _ j e
  exact ⟨all_fin _ _ _ _ j e0, all_fin _ _ _ _ j e1, all_fin _ _ _ _ j e2, all_fin _ _ _ _ j e3, all_fin _ _ _ _ j e4, all_fin _ _ _ _ j e5,
    all_fin _ _ _ _ j e6, all_fin _ _ _ _ j e7, all_fin _ _ _ _ j e8, all_fin _ _ _ _ j e9, all_fin _ _ _ _ j e10⟩

end Cert.Finite

end
-- ==== Proof.Algebraic.lean ====
module

public import proofs.«01_k».proof.Proof.KernelIdeal.Values
public import proofs.«01_k».proof.Proof.KernelIdeal.Frame
public import proofs.«01_k».proof.Proof.Reference
public import proofs.«01_k».proof.Proof.Finite

/-! The value claim: on finite arguments the kernel's two results and the reference's are both the network's. -/

@[expose] public section

set_option maxRecDepth 16384

noncomputable section

namespace Cert.Values

open Cert.Net
open Idealize.ShloMosaic Idealize.ShloMosaic.TcCoe

theorem finite {m : (ℓ : Loc Cert.KernelIdeal.nD Cert.KernelIdeal.τ Cert.KernelIdeal.sig) → Buf (Elt Ideal) ℓ} (h : Cert.Pre_KernelIdeal_finite m) (c : Dev Cert.KernelIdeal.nD) :
    Cert.KernelIdeal.Run.Finite m c := by
  obtain ⟨a0, a1, a2, a3, a4, a5, a6, a7, a8, a9, a10⟩ := Cert.Finite.of_pre h c
  exact ⟨fun i j => a1 _, fun i j => a0 _, fun i j => a2 _, fun j => a3 _, fun i j => a4 _, fun j => a5 _, fun i j => a6 _, fun j => a7 _, fun i j => a8 _,
    fun j => a9 _, fun i j => a10 _⟩

theorem algebraic : Cert.algebraic_KernelIdeal_ReferenceIdeal_pre_finite := by
  intro m g m' g' hp ha
  have par_eq (c : Dev Cert.KernelIdeal.nD) : Cert.ReferenceIdeal.Value.par m' c = Cert.KernelIdeal.Run.par m c := by
    obtain ⟨h0, h1, h2, h3, h4, h5, h6, h7, h8, h9, h10, h11, h12, h13, h14, h15, h16, h17⟩ := ha c
    unfold Cert.ReferenceIdeal.Value.par Cert.KernelIdeal.Run.par
    rw [h0, h1, h2, h3, h4, h5, h6, h7, h8, h9, h10, h11, h12, h13, h14, h15, h16, h17]
  refine ⟨fun c => Cert.KernelIdeal.Run.outs m 5 Cert.KernelIdeal.main_v10_0 c, fun c => Cert.KernelIdeal.Run.outs m 5 Cert.KernelIdeal.main_v10_1 c,
    Cert.KernelIdeal.Run.results m g,
    (θ_run _ _ _).mono (fun _ h c => ⟨(h c).1.trans ?_, (h c).2.1.trans ?_, (h c).2.2⟩) (Cert.ReferenceIdeal.Value.run (F := Ideal) m' g')⟩
  · refine (Cert.ReferenceIdeal.Value.v46_eq m' c).trans (Eq.trans ?_ (finite hp c).out.symm)
    rw [← par_eq, ← Cert.ReferenceIdeal.Value.gout_at]
    funext i
    exact congrArg _ (eq_ix2 i)
  · refine (Cert.ReferenceIdeal.Value.v37_eq m' c).trans (Eq.trans ?_ (finite hp c).fus.symm)
    rw [← par_eq, ← Cert.ReferenceIdeal.Value.gfus_at]
    funext i
    exact congrArg _ (eq_ix2 i)

end Cert.Values

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Kernel.Frame
public import proofs.«01_k».proof.Proof.KernelIdeal.Frame
public import proofs.«01_k».proof.Proof.RefFrame
public import proofs.«01_k».proof.Proof.Consts
public import proofs.«01_k».proof.Proof.Algebraic

/-! The claim, assembled. -/

@[expose] public section

noncomputable section

namespace Cert.Proof

theorem claim : Cert.Claim :=
  ⟨Cert.Kernel.Gen.facts, Cert.KernelIdeal.Gen.facts, Cert.ReferenceIdeal.Gen.facts, Cert.Finite.facts,
    Cert.Kernel.Run.frame, Cert.KernelIdeal.Run.frame, fun m g _ => Cert.KernelIdeal.Run.frame m g trivial,
    Cert.ReferenceIdeal.Value.frame, fun m g _ => Cert.ReferenceIdeal.Value.frame m g trivial,
    Cert.Named.preserves, Cert.Values.algebraic⟩

end Cert.Proof

end
